-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_candidate_rows_finite [hPre_candidate_rows_finite : Cert.Pre_candidate_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_candidate_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_candidate_rows_finite [hPre_candidate_rows_finite : Cert.Pre_candidate_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_candidate_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_candidate_rows_finite [hKernelIdeal : Cert.KernelIdeal.Facts] [hPre_candidate_rows_finite : Cert.Pre_candidate_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_candidate_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_candidate_rows_finite [hReferenceIdeal : Cert.ReferenceIdeal.Facts] [hPre_candidate_rows_finite : Cert.Pre_candidate_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_candidate_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_candidate_rows_finite [hKernelIdeal : Cert.KernelIdeal.Facts] [hReferenceIdeal : Cert.ReferenceIdeal.Facts] [hPre_candidate_rows_finite : Cert.Pre_candidate_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_candidate_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v651) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_candidate_rows_finite : Cert.Pre_candidate_rows_finite.Facts),
    quiescent_Kernel (hKernel := hKernel)
    ∧ quiescent_KernelIdeal (hKernelIdeal := hKernelIdeal)
    ∧ quiescent_KernelIdeal_pre_candidate_rows_finite (hKernelIdeal := hKernelIdeal) (hPre_candidate_rows_finite := hPre_candidate_rows_finite)
    ∧ quiescent_ReferenceIdeal (hReferenceIdeal := hReferenceIdeal)
    ∧ quiescent_ReferenceIdeal_pre_candidate_rows_finite (hReferenceIdeal := hReferenceIdeal) (hPre_candidate_rows_finite := hPre_candidate_rows_finite)
    ∧ preserves_Kernel_KernelIdeal
    ∧ algebraic_KernelIdeal_ReferenceIdeal_pre_candidate_rows_finite (hKernelIdeal := hKernelIdeal) (hReferenceIdeal := hReferenceIdeal) (hPre_candidate_rows_finite := hPre_candidate_rows_finite)
-- ==== Pre_candidate_rows_finite.lean ====
abbrev S100000x8x128 : Shape := ⟨3, ![100000, 8, 128]⟩
abbrev S100000x8 : Shape := ⟨2, ![100000, 8]⟩
abbrev S96x128 : Shape := ⟨2, ![96, 128]⟩
abbrev S96x32 : Shape := ⟨2, ![96, 32]⟩
abbrev S96 : Shape := ⟨1, ![96]⟩
abbrev S32x32 : Shape := ⟨2, ![32, 32]⟩
abbrev S_ : Shape := ⟨0, ![]⟩
abbrev S32 : Shape := ⟨1, ![32]⟩

class Facts : Prop where
  slices_S96x32_S32x32_64_0 : S96x32.Slices ![64, 0] S32x32
  bcast_S_S32x32 : S_.BroadcastsInDim S32x32 (![] : Fin 0 → Fin S32x32.rank)
  reducesTo_S32x32_S_d0_1 : S32x32.ReducesTo [0, 1] S_
  h_S_ : 0 < S_.numel
  slices_S96_S32_64 : S96.Slices ![64] S32
  bcast_S_S32 : S_.BroadcastsInDim S32 (![] : Fin 0 → Fin S32.rank)
  reducesTo_S32_S_d0 : S32.ReducesTo [0] S_

variable [Facts]

def fn_part1 {F : FTy → Type} [FloatOps F] (main_v16 : IVec S_ 1) (main_v17 : FVec F S32 .f32) : IVec S_ 1 :=
  let main_v18 : FVec F S32 .f32 := Host.absf main_v17
  let main_cst_4 : FVec F S_ .f32 := constant S_ .f32 0x7F800000#32
  let main_v19 : FVec F S32 .f32 := broadcastInDim S32 ![] bcast_S_S32 main_cst_4
  let main_v20 : IVec S32 1 := cmpf .olt main_v18 main_v19
  let main_c_5 : IVec S_ 1 := constantI S_ 1 1#1
  let main_v21 : IVec S_ 1 := (fun x v => Host.reduce IntOp.andi x v reducesTo_S32_S_d0 h_S_) main_v20 main_c_5
  let main_v22 : IVec S_ 1 := andi main_v16 main_v21
  main_v22

def fn {F : FTy → Type} [FloatOps F] (main_arg0 : FVec F S100000x8x128 .f32) (main_arg1 : IVec S100000x8 32) (main_arg2 : FVec F S96x128 .f32) (main_arg3 : FVec F S96x32 .f32) (main_arg4 : FVec F S96 .f32) (main_arg5 : FVec F S96 .f32) (main_arg6 : FVec F S96x128 .f32) (main_arg7 : FVec F S96x32 .f32) (main_arg8 : FVec F S96 .f32) (main_arg9 : FVec F S96 .f32) : IVec S_ 1 :=
  let main_v0 : FVec F S32x32 .f32 := (extractStridedSlice S32x32 ![64, 0] · slices_S96x32_S32x32_64_0) main_arg3
  let main_v1 : FVec F S32x32 .f32 := Host.absf main_v0
  let main_cst : FVec F S_ .f32 := constant S_ .f32 0x7F800000#32
  let main_v2 : FVec F S32x32 .f32 := broadcastInDim S32x32 ![] bcast_S_S32x32 main_cst
  let main_v3 : IVec S32x32 1 := cmpf .olt main_v1 main_v2
  let main_c : IVec S_ 1 := constantI S_ 1 1#1
  let main_v4 : IVec S_ 1 := (fun x v => Host.reduce IntOp.andi x v reducesTo_S32x32_S_d0_1 h_S_) main_v3 main_c
  let main_v5 : FVec F S32 .f32 := (extractStridedSlice S32 ![64] · slices_S96_S32_64) main_arg5
  let main_v6 : FVec F S32 .f32 := Host.absf main_v5
  let main_cst_0 : FVec F S_ .f32 := constant S_ .f32 0x7F800000#32
  let main_v7 : FVec F S32 .f32 := broadcastInDim S32 ![] bcast_S_S32 main_cst_0
  let main_v8 : IVec S32 1 := cmpf .olt main_v6 main_v7
  let main_c_1 : IVec S_ 1 := constantI S_ 1 1#1
  let main_v9 : IVec S_ 1 := (fun x v => Host.reduce IntOp.andi x v reducesTo_S32_S_d0 h_S_) main_v8 main_c_1
  let main_v10 : IVec S_ 1 := andi main_v4 main_v9
  let main_v11 : FVec F S32x32 .f32 := (extractStridedSlice S32x32 ![64, 0] · slices_S96x32_S32x32_64_0) main_arg7
  let main_v12 : FVec F S32x32 .f32 := Host.absf main_v11
  let main_cst_2 : FVec F S_ .f32 := constant S_ .f32 0x7F800000#32
  let main_v13 : FVec F S32x32 .f32 := broadcastInDim S32x32 ![] bcast_S_S32x32 main_cst_2
  let main_v14 : IVec S32x32 1 := cmpf .olt main_v12 main_v13
  let main_c_3 : IVec S_ 1 := constantI S_ 1 1#1
  let main_v15 : IVec S_ 1 := (fun x v => Host.reduce IntOp.andi x v reducesTo_S32x32_S_d0_1 h_S_) main_v14 main_c_3
  let main_v16 : IVec S_ 1 := andi main_v10 main_v15
  let main_v17 : FVec F S32 .f32 := (extractStridedSlice S32 ![64] · slices_S96_S32_64) main_arg9
  fn_part1 (F := F) main_v16 main_v17
-- ==== Kernel.lean ====
abbrev S100000x8x128 : Shape := ⟨3, ![100000, 8, 128]⟩
abbrev S100000x8 : Shape := ⟨2, ![100000, 8]⟩
abbrev S96x128 : Shape := ⟨2, ![96, 128]⟩
abbrev S96x32 : Shape := ⟨2, ![96, 32]⟩
abbrev S96 : Shape := ⟨1, ![96]⟩
abbrev S_ : Shape := ⟨0, ![]⟩
abbrev S64 : Shape := ⟨1, ![64]⟩
abbrev S32 : Shape := ⟨1, ![32]⟩
abbrev S96x1 : Shape := ⟨2, ![96, 1]⟩
abbrev S192x128 : Shape := ⟨2, ![192, 128]⟩
abbrev S192x32 : Shape := ⟨2, ![192, 32]⟩
abbrev S192 : Shape := ⟨1, ![192]⟩
abbrev S192x1 : Shape := ⟨2, ![192, 1]⟩
abbrev S64x1 : Shape := ⟨2, ![64, 1]⟩
abbrev S50x2000x8 : Shape := ⟨3, ![50, 2000, 8]⟩
abbrev S50x8x2000 : Shape := ⟨3, ![50, 8, 2000]⟩
abbrev S100000x32 : Shape := ⟨2, ![100000, 32]⟩
abbrev S1x8x2000 : Shape := ⟨3, ![1, 8, 2000]⟩
abbrev S2000x32 : Shape := ⟨2, ![2000, 32]⟩
abbrev S2x8x2000x128 : Shape := ⟨4, ![2, 8, 2000, 128]⟩
abbrev S2x8 : Shape := ⟨2, ![2, 8]⟩
abbrev S1x1 : Shape := ⟨2, ![1, 1]⟩
abbrev S1x1x2000x128 : Shape := ⟨4, ![1, 1, 2000, 128]⟩
abbrev S2000x128 : Shape := ⟨2, ![2000, 128]⟩
abbrev S2000x1x128 : Shape := ⟨3, ![2000, 1, 128]⟩
abbrev S8x2000 : Shape := ⟨2, ![8, 2000]⟩
abbrev S1x2000 : Shape := ⟨2, ![1, 2000]⟩
abbrev S32x256 : Shape := ⟨2, ![32, 256]⟩
abbrev S1x1x256x128 : Shape := ⟨4, ![1, 1, 256, 128]⟩
abbrev S256x128 : Shape := ⟨2, ![256, 128]⟩
abbrev S96x256 : Shape := ⟨2, ![96, 256]⟩
abbrev S32x1 : Shape := ⟨2, ![32, 1]⟩
abbrev S1x256 : Shape := ⟨2, ![1, 256]⟩
abbrev S64x256 : Shape := ⟨2, ![64, 256]⟩
abbrev S256x32 : Shape := ⟨2, ![256, 32]⟩
abbrev S32x208 : Shape := ⟨2, ![32, 208]⟩
abbrev S1x1x208x128 : Shape := ⟨4, ![1, 1, 208, 128]⟩
abbrev S208x128 : Shape := ⟨2, ![208, 128]⟩
abbrev S96x208 : Shape := ⟨2, ![96, 208]⟩
abbrev S1x208 : Shape := ⟨2, ![1, 208]⟩
abbrev S64x208 : Shape := ⟨2, ![64, 208]⟩
abbrev S208x32 : Shape := ⟨2, ![208, 32]⟩

abbrev nBuf : Space → Nat
  | .hbm => 60
  | .vmem => 9
  | .smem => 0
  | _ => 0

abbrev bufTy : (tb : Table) → Fin (tcTables nBuf tb) → BufTy
  | .hbm, ⟨0, _⟩ => ⟨S100000x8x128, .f32⟩
  | .hbm, ⟨1, _⟩ => ⟨S100000x8, .i32⟩
  | .hbm, ⟨2, _⟩ => ⟨S96x128, .f32⟩
  | .hbm, ⟨3, _⟩ => ⟨S96x32, .f32⟩
  | .hbm, ⟨4, _⟩ => ⟨S96, .f32⟩
  | .hbm, ⟨5, _⟩ => ⟨S96, .f32⟩
  | .hbm, ⟨6, _⟩ => ⟨S96x128, .f32⟩
  | .hbm, ⟨7, _⟩ => ⟨S96x32, .f32⟩
  | .hbm, ⟨8, _⟩ => ⟨S96, .f32⟩
  | .hbm, ⟨9, _⟩ => ⟨S96, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S32, .f32⟩
  | .hbm, ⟨14, _⟩ => ⟨S64, .f32⟩
  | .hbm, ⟨15, _⟩ => ⟨S96, .f32⟩
  | .hbm, ⟨16, _⟩ => ⟨S96x1, .f32⟩
  | .hbm, ⟨17, _⟩ => ⟨S96x128, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S192x128, .f32⟩
  | .hbm, ⟨22, _⟩ => ⟨S192x128, .bf16⟩
  | .hbm, ⟨23, _⟩ => ⟨S96x32, .f32⟩
  | .hbm, ⟨24, _⟩ => ⟨S96x32, .f32⟩
  | .hbm, ⟨25, _⟩ => ⟨S96x32, .f32⟩
  | .hbm, ⟨26, _⟩ => ⟨S96x32, .f32⟩
  | .hbm, ⟨27, _⟩ => ⟨S192x32, .f32⟩
  | .hbm, ⟨28, _⟩ => ⟨S192x32, .bf16⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S32, .f32⟩
  | .hbm, ⟨36, _⟩ => ⟨S96, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S32, .f32⟩
  | .hbm, ⟨44, _⟩ => ⟨S96, .f32⟩
  | .hbm, ⟨45, _⟩ => ⟨S192, .f32⟩
  | .hbm, ⟨46, _⟩ => ⟨S192x1, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S64, .f32⟩
  | .hbm, ⟨56, _⟩ => ⟨S64x1, .f32⟩
  | .hbm, ⟨57, _⟩ => ⟨S50x2000x8, .i32⟩
  | .hbm, ⟨58, _⟩ => ⟨S50x8x2000, .i32⟩
  | .hbm, ⟨59, _⟩ => ⟨S100000x32, .f32⟩
  | .local _ .vmem, ⟨0, _⟩ => ⟨S1x8x2000, .i32⟩
  | .local _ .vmem, ⟨1, _⟩ => ⟨S1x8x2000, .i32⟩
  | .local _ .vmem, ⟨2, _⟩ => ⟨S192x128, .bf16⟩
  | .local _ .vmem, ⟨3, _⟩ => ⟨S192x32, .bf16⟩
  | .local _ .vmem, ⟨4, _⟩ => ⟨S192x1, .f32⟩
  | .local _ .vmem, ⟨5, _⟩ => ⟨S64x1, .f32⟩
  | .local _ .vmem, ⟨6, _⟩ => ⟨S2000x32, .f32⟩
  | .local _ .vmem, ⟨7, _⟩ => ⟨S2000x32, .f32⟩
  | .local _ .vmem, ⟨8, _⟩ => ⟨S2x8x2000x128, .f32⟩
  | _, _ => ⟨S100000x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c2000_i32_1114 : BitVec 32 := 2000#32
  let v5398 : BitVec 32 := Scalar.muli arg0 c2000_i32_1114
  let c0_i32_1122 : BitVec 32 := 0#32
  let c0_i32_1129 : BitVec 32 := 0#32
  ![v5398.toNat, 0, 0]
def k0_off2 (i : grid0.Coords) : Fin 3 → Nat :=
  let arg0 : BitVec 32 := BitVec.ofNat 32 (i 0).val
  let c2000_i32_1115 : BitVec 32 := 2000#32
  let v5399 : BitVec 32 := Scalar.muli arg0 c2000_i32_1115
  let c1_i32_1130 : BitVec 32 := 1#32
  let c0_i32_1137 : BitVec 32 := 0#32
  ![v5399.toNat, 1, 0]
def k0_off3 (i : grid0.Coords) : Fin 3 → Nat :=
  let arg0 : BitVec 32 := BitVec.ofNat 32 (i 0).val
  let c2000_i32_1116 : BitVec 32 := 2000#32
  let v5400 : BitVec 32 := Scalar.muli arg0 c2000_i32_1116
  let c2_i32_1138 : BitVec 32 := 2#32
  let c0_i32_1145 : BitVec 32 := 0#32
  ![v5400.toNat, 2, 0]
def k0_off4 (i : grid0.Coords) : Fin 3 → Nat :=
  let arg0 : BitVec 32 := BitVec.ofNat 32 (i 0).val
  let c2000_i32_1117 : BitVec 32 := 2000#32
  let v5401 : BitVec 32 := Scalar.muli arg0 c2000_i32_1117
  let c3_i32_1146 : BitVec 32 := 3#32
  let c0_i32_1153 : BitVec 32 := 0#32
  ![v5401.toNat, 3, 0]
def k0_off5 (i : grid0.Coords) : Fin 3 → Nat :=
  let arg0 : BitVec 32 := BitVec.ofNat 32 (i 0).val
  let c2000_i32_1118 : BitVec 32 := 2000#32
  let v5402 : BitVec 32 := Scalar.muli arg0 c2000_i32_1118
  let c4_i32_1154 : BitVec 32 := 4#32
  let c0_i32_1161 : BitVec 32 := 0#32
  ![v5402.toNat, 4, 0]
def k0_off6 (i : grid0.Coords) : Fin 3 → Nat :=
  let arg0 : BitVec 32 := BitVec.ofNat 32 (i 0).val
  let c2000_i32_1119 : BitVec 32 := 2000#32
  let v5403 : BitVec 32 := Scalar.muli arg0 c2000_i32_1119
  let c5_i32_1162 : BitVec 32 := 5#32
  let c0_i32_1169 : BitVec 32 := 0#32
  ![v5403.toNat, 5, 0]
def k0_off7 (i : grid0.Coords) : Fin 3 → Nat :=
  let arg0 : BitVec 32 := BitVec.ofNat 32 (i 0).val
  let c2000_i32_1120 : BitVec 32 := 2000#32
  let v5404 : BitVec 32 := Scalar.muli arg0 c2000_i32_1120
  let c6_i32_1170 : BitVec 32 := 6#32
  let c0_i32_1177 : BitVec 32 := 0#32
  ![v5404.toNat, 6, 0]
def k0_off8 (i : grid0.Coords) : Fin 3 → Nat :=
  let arg0 : BitVec 32 := BitVec.ofNat 32 (i 0).val
  let c2000_i32_1121 : BitVec 32 := 2000#32
  let v5405 : BitVec 32 := Scalar.muli arg0 c2000_i32_1121
  let c7_i32_1178 : BitVec 32 := 7#32
  let c0_i32_1185 : BitVec 32 := 0#32
  ![v5405.toNat, 7, 0]
def k0_cond2 (i : grid0.Coords) : BitVec 1 :=
  let arg0 : BitVec 32 := BitVec.ofNat 32 (i 0).val
  let c1_i32 : BitVec 32 := 1#32
  let v3 : BitVec 32 := Scalar.addi arg0 c1_i32
  let c50_i32 : BitVec 32 := 50#32
  let v4 : BitVec 1 := Scalar.cmpi .slt v3 c50_i32
  let v5 : BitVec 32 := Scalar.extui v4
  let c0_i32_1 : BitVec 32 := 0#32
  let v6 : BitVec 1 := Scalar.cmpi .ne v5 c0_i32_1
  v6

def k0_off9 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c0_i32_1132 : BitVec 32 := 0#32
  ![v5408.toNat, 0]
def k0_off10 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c0_i32_1131 : BitVec 32 := 0#32
  let c0_i32_1133 : BitVec 32 := 0#32
  let c0_i32_1134 : BitVec 32 := 0#32
  ![v5408.toNat, 0, 0, 0]
def k0_off11 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1122 : BitVec 32 := 2000#32
  let v5410 : BitVec 32 := Scalar.muli v5409 c2000_i32_1122
  let c0_i32_1130 : BitVec 32 := 0#32
  let c0_i32_1135 : BitVec 32 := 0#32
  ![v5410.toNat, 0, 0]
def k0_off12 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c1_i32_1138 : BitVec 32 := 1#32
  ![v5408.toNat, 1]
def k0_off13 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c1_i32_1137 : BitVec 32 := 1#32
  let c0_i32_1139 : BitVec 32 := 0#32
  let c0_i32_1140 : BitVec 32 := 0#32
  ![v5408.toNat, 1, 0, 0]
def k0_off14 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1123 : BitVec 32 := 2000#32
  let v5411 : BitVec 32 := Scalar.muli v5409 c2000_i32_1123
  let c1_i32_1136 : BitVec 32 := 1#32
  let c0_i32_1141 : BitVec 32 := 0#32
  ![v5411.toNat, 1, 0]
def k0_off15 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c2_i32_1144 : BitVec 32 := 2#32
  ![v5408.toNat, 2]
def k0_off16 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c2_i32_1143 : BitVec 32 := 2#32
  let c0_i32_1145 : BitVec 32 := 0#32
  let c0_i32_1146 : BitVec 32 := 0#32
  ![v5408.toNat, 2, 0, 0]
def k0_off17 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1124 : BitVec 32 := 2000#32
  let v5412 : BitVec 32 := Scalar.muli v5409 c2000_i32_1124
  let c2_i32_1142 : BitVec 32 := 2#32
  let c0_i32_1147 : BitVec 32 := 0#32
  ![v5412.toNat, 2, 0]
def k0_off18 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c3_i32_1150 : BitVec 32 := 3#32
  ![v5408.toNat, 3]
def k0_off19 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c3_i32_1149 : BitVec 32 := 3#32
  let c0_i32_1151 : BitVec 32 := 0#32
  let c0_i32_1152 : BitVec 32 := 0#32
  ![v5408.toNat, 3, 0, 0]
def k0_off20 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1125 : BitVec 32 := 2000#32
  let v5413 : BitVec 32 := Scalar.muli v5409 c2000_i32_1125
  let c3_i32_1148 : BitVec 32 := 3#32
  let c0_i32_1153 : BitVec 32 := 0#32
  ![v5413.toNat, 3, 0]
def k0_off21 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c4_i32_1156 : BitVec 32 := 4#32
  ![v5408.toNat, 4]
def k0_off22 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c4_i32_1155 : BitVec 32 := 4#32
  let c0_i32_1157 : BitVec 32 := 0#32
  let c0_i32_1158 : BitVec 32 := 0#32
  ![v5408.toNat, 4, 0, 0]
def k0_off23 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1126 : BitVec 32 := 2000#32
  let v5414 : BitVec 32 := Scalar.muli v5409 c2000_i32_1126
  let c4_i32_1154 : BitVec 32 := 4#32
  let c0_i32_1159 : BitVec 32 := 0#32
  ![v5414.toNat, 4, 0]
def k0_off24 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c5_i32_1162 : BitVec 32 := 5#32
  ![v5408.toNat, 5]
def k0_off25 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c5_i32_1161 : BitVec 32 := 5#32
  let c0_i32_1163 : BitVec 32 := 0#32
  let c0_i32_1164 : BitVec 32 := 0#32
  ![v5408.toNat, 5, 0, 0]
def k0_off26 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1127 : BitVec 32 := 2000#32
  let v5415 : BitVec 32 := Scalar.muli v5409 c2000_i32_1127
  let c5_i32_1160 : BitVec 32 := 5#32
  let c0_i32_1165 : BitVec 32 := 0#32
  ![v5415.toNat, 5, 0]
def k0_off27 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c6_i32_1168 : BitVec 32 := 6#32
  ![v5408.toNat, 6]
def k0_off28 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c6_i32_1167 : BitVec 32 := 6#32
  let c0_i32_1169 : BitVec 32 := 0#32
  let c0_i32_1170 : BitVec 32 := 0#32
  ![v5408.toNat, 6, 0, 0]
def k0_off29 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1128 : BitVec 32 := 2000#32
  let v5416 : BitVec 32 := Scalar.muli v5409 c2000_i32_1128
  let c6_i32_1166 : BitVec 32 := 6#32
  let c0_i32_1171 : BitVec 32 := 0#32
  ![v5416.toNat, 6, 0]
def k0_off30 (i : grid0.Coords) : Fin 2 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c7_i32_1174 : BitVec 32 := 7#32
  ![v5408.toNat, 7]
def k0_off31 (i : grid0.Coords) : Fin 4 → Nat :=
  let arg0 : BitVec 32 := BitVec.ofNat 32 (i 0).val
  let c1_i32_1114 : BitVec 32 := 1#32
  let v5398 : BitVec 32 := Scalar.addi arg0 c1_i32_1114
  let c2_i32_1115 : BitVec 32 := 2#32
  let c0_i32_1116 : BitVec 32 := 0#32
  let v5399 : BitVec 1 := Scalar.cmpi .eq c2_i32_1115 c0_i32_1116
  let c1_i32_1117 : BitVec 32 := 1#32
  let v5400 : BitVec 32 := Scalar.select v5399 c1_i32_1117 c2_i32_1115
  let v5401 : BitVec 32 := Scalar.remsi v5398 v5400
  let c0_i32_1119 : BitVec 32 := 0#32
  let v5403 : BitVec 1 := Scalar.cmpi .slt v5401 c0_i32_1119
  let c0_i32_1120 : BitVec 32 := 0#32
  let v5404 : BitVec 1 := Scalar.cmpi .slt v5400 c0_i32_1120
  let v5405 : BitVec 1 := Scalar.xori v5403 v5404
  let c0_i32_1118 : BitVec 32 := 0#32
  let v5402 : BitVec 1 := Scalar.cmpi .ne v5401 c0_i32_1118
  let v5406 : BitVec 1 := Scalar.andi v5405 v5402
  let v5407 : BitVec 32 := Scalar.addi v5401 v5400
  let v5408 : BitVec 32 := Scalar.select v5406 v5407 v5401
  let c7_i32_1173 : BitVec 32 := 7#32
  let c0_i32_1175 : BitVec 32 := 0#32
  let c0_i32_1176 : BitVec 32 := 0#32
  ![v5408.toNat, 7, 0, 0]
def k0_off32 (i : grid0.Coords) : Fin 3 → Nat :=
  let arg0 : BitVec 32 := BitVec.ofNat 32 (i 0).val
  let c1_i32_1121 : BitVec 32 := 1#32
  let v5409 : BitVec 32 := Scalar.addi arg0 c1_i32_1121
  let c2000_i32_1129 : BitVec 32 := 2000#32
  let v5417 : BitVec 32 := Scalar.muli v5409 c2000_i32_1129
  let c7_i32_1172 : BitVec 32 := 7#32
  let c0_i32_1177 : BitVec 32 := 0#32
  ![v5417.toNat, 7, 0]
def k0_off33 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_16 : BitVec 32 := 0#32
  ![v16.toNat, 0]
def k0_off34 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_15 : BitVec 32 := 0#32
  let c0_i32_17 : BitVec 32 := 0#32
  let c0_i32_18 : BitVec 32 := 0#32
  ![v16.toNat, 0, 0, 0]
def k0_off35 (i : grid0.Coords) : Fin 3 → Nat :=
  let arg0 : BitVec 32 := BitVec.ofNat 32 (i 0).val
  let c2000_i32 : BitVec 32 := 2000#32
  let v17 : BitVec 32 := Scalar.muli arg0 c2000_i32
  let c0_i32_14 : BitVec 32 := 0#32
  let c0_i32_19 : BitVec 32 := 0#32
  ![v17.toNat, 0, 0]
def k0_off36 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_22 : BitVec 32 := 1#32
  ![v16.toNat, 1]
def k0_off37 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_21 : BitVec 32 := 1#32
  let c0_i32_23 : BitVec 32 := 0#32
  let c0_i32_24 : BitVec 32 := 0#32
  ![v16.toNat, 1, 0, 0]
def k0_off38 (i : grid0.Coords) : Fin 3 → Nat :=
  let arg0 : BitVec 32 := BitVec.ofNat 32 (i 0).val
  let c2000_i32_7 : BitVec 32 := 2000#32
  let v18 : BitVec 32 := Scalar.muli arg0 c2000_i32_7
  let c1_i32_20 : BitVec 32 := 1#32
  let c0_i32_25 : BitVec 32 := 0#32
  ![v18.toNat, 1, 0]
def k0_off39 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_28 : BitVec 32 := 2#32
  ![v16.toNat, 2]
def k0_off40 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_27 : BitVec 32 := 2#32
  let c0_i32_29 : BitVec 32 := 0#32
  let c0_i32_30 : BitVec 32 := 0#32
  ![v16.toNat, 2, 0, 0]
def k0_off41 (i : grid0.Coords) : Fin 3 → Nat :=
  let arg0 : BitVec 32 := BitVec.ofNat 32 (i 0).val
  let c2000_i32_8 : BitVec 32 := 2000#32
  let v19 : BitVec 32 := Scalar.muli arg0 c2000_i32_8
  let c2_i32_26 : BitVec 32 := 2#32
  let c0_i32_31 : BitVec 32 := 0#32
  ![v19.toNat, 2, 0]
def k0_off42 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_33 : BitVec 32 := 3#32
  ![v16.toNat, 3]
def k0_off43 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_32 : BitVec 32 := 3#32
  let c0_i32_34 : BitVec 32 := 0#32
  let c0_i32_35 : BitVec 32 := 0#32
  ![v16.toNat, 3, 0, 0]
def k0_off44 (i : grid0.Coords) : Fin 3 → Nat :=
  let arg0 : BitVec 32 := BitVec.ofNat 32 (i 0).val
  let c2000_i32_9 : BitVec 32 := 2000#32
  let v20 : BitVec 32 := Scalar.muli arg0 c2000_i32_9
  let c3_i32 : BitVec 32 := 3#32
  let c0_i32_36 : BitVec 32 := 0#32
  ![v20.toNat, 3, 0]
def k0_off45 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_38 : BitVec 32 := 4#32
  ![v16.toNat, 4]
def k0_off46 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_37 : BitVec 32 := 4#32
  let c0_i32_39 : BitVec 32 := 0#32
  let c0_i32_40 : BitVec 32 := 0#32
  ![v16.toNat, 4, 0, 0]
def k0_off47 (i : grid0.Coords) : Fin 3 → Nat :=
  let arg0 : BitVec 32 := BitVec.ofNat 32 (i 0).val
  let c2000_i32_10 : BitVec 32 := 2000#32
  let v21 : BitVec 32 := Scalar.muli arg0 c2000_i32_10
  let c4_i32 : BitVec 32 := 4#32
  let c0_i32_41 : BitVec 32 := 0#32
  ![v21.toNat, 4, 0]
def k0_off48 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_43 : BitVec 32 := 5#32
  ![v16.toNat, 5]
def k0_off49 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_42 : BitVec 32 := 5#32
  let c0_i32_44 : BitVec 32 := 0#32
  let c0_i32_45 : BitVec 32 := 0#32
  ![v16.toNat, 5, 0, 0]
def k0_off50 (i : grid0.Coords) : Fin 3 → Nat :=
  let arg0 : BitVec 32 := BitVec.ofNat 32 (i 0).val
  let c2000_i32_11 : BitVec 32 := 2000#32
  let v22 : BitVec 32 := Scalar.muli arg0 c2000_i32_11
  let c5_i32 : BitVec 32 := 5#32
  let c0_i32_46 : BitVec 32 := 0#32
  ![v22.toNat, 5, 0]
def k0_off51 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_48 : BitVec 32 := 6#32
  ![v16.toNat, 6]
def k0_off52 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_47 : BitVec 32 := 6#32
  let c0_i32_49 : BitVec 32 := 0#32
  let c0_i32_50 : BitVec 32 := 0#32
  ![v16.toNat, 6, 0, 0]
def k0_off53 (i : grid0.Coords) : Fin 3 → Nat :=
  let arg0 : BitVec 32 := BitVec.ofNat 32 (i 0).val
  let c2000_i32_12 : BitVec 32 := 2000#32
  let v23 : BitVec 32 := Scalar.muli arg0 c2000_i32_12
  let c6_i32 : BitVec 32 := 6#32
  let c0_i32_51 : BitVec 32 := 0#32
  ![v23.toNat, 6, 0]
def k0_off54 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_53 : BitVec 32 := 7#32
  ![v16.toNat, 7]
def k0_off55 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_52 : BitVec 32 := 7#32
  let c0_i32_54 : BitVec 32 := 0#32
  let c0_i32_55 : BitVec 32 := 0#32
  ![v16.toNat, 7, 0, 0]
def k0_off56 (i : grid0.Coords) : Fin 3 → Nat :=
  let arg0 : BitVec 32 := BitVec.ofNat 32 (i 0).val
  let c2000_i32_13 : BitVec 32 := 2000#32
  let v24 : BitVec 32 := Scalar.muli arg0 c2000_i32_13
  let c7_i32 : BitVec 32 := 7#32
  let c0_i32_56 : BitVec 32 := 0#32
  ![v24.toNat, 7, 0]
def k0_off57 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v119 : Index := Scalar.indexCast v82
  let c0_80 : Index := 0#32
  let c0_81 : Index := 0#32
  let c0_82 : Index := 0#32
  ![v119.toNat, 0, 0, 0]
def k0_off58 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v160 : Index := Scalar.indexCast v82
  let c7 : Index := 7#32
  let c0_88 : Index := 0#32
  let c0_89 : Index := 0#32
  ![v160.toNat, 7, 0, 0]
def k0_off59 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v201 : Index := Scalar.indexCast v82
  let c0_95 : Index := 0#32
  let c256 : Index := 256#32
  let c0_96 : Index := 0#32
  ![v201.toNat, 0, 256, 0]
def k0_off60 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v242 : Index := Scalar.indexCast v82
  let c7_102 : Index := 7#32
  let c256_103 : Index := 256#32
  let c0_104 : Index := 0#32
  ![v242.toNat, 7, 256, 0]
def k0_off61 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v283 : Index := Scalar.indexCast v82
  let c0_110 : Index := 0#32
  let c512 : Index := 512#32
  let c0_111 : Index := 0#32
  ![v283.toNat, 0, 512, 0]
def k0_off62 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v324 : Index := Scalar.indexCast v82
  let c7_117 : Index := 7#32
  let c512_118 : Index := 512#32
  let c0_119 : Index := 0#32
  ![v324.toNat, 7, 512, 0]
def k0_off63 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v365 : Index := Scalar.indexCast v82
  let c0_125 : Index := 0#32
  let c768 : Index := 768#32
  let c0_126 : Index := 0#32
  ![v365.toNat, 0, 768, 0]
def k0_off64 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v406 : Index := Scalar.indexCast v82
  let c7_132 : Index := 7#32
  let c768_133 : Index := 768#32
  let c0_134 : Index := 0#32
  ![v406.toNat, 7, 768, 0]
def k0_off65 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v447 : Index := Scalar.indexCast v82
  let c1 : Index := 1#32
  let c0_140 : Index := 0#32
  let c0_141 : Index := 0#32
  ![v447.toNat, 1, 0, 0]
def k0_off66 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v488 : Index := Scalar.indexCast v82
  let c6 : Index := 6#32
  let c0_147 : Index := 0#32
  let c0_148 : Index := 0#32
  ![v488.toNat, 6, 0, 0]
def k0_off67 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v529 : Index := Scalar.indexCast v82
  let c1_154 : Index := 1#32
  let c256_155 : Index := 256#32
  let c0_156 : Index := 0#32
  ![v529.toNat, 1, 256, 0]
def k0_off68 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v570 : Index := Scalar.indexCast v82
  let c6_162 : Index := 6#32
  let c256_163 : Index := 256#32
  let c0_164 : Index := 0#32
  ![v570.toNat, 6, 256, 0]
def k0_off69 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v611 : Index := Scalar.indexCast v82
  let c1_170 : Index := 1#32
  let c512_171 : Index := 512#32
  let c0_172 : Index := 0#32
  ![v611.toNat, 1, 512, 0]
def k0_off70 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v652 : Index := Scalar.indexCast v82
  let c6_178 : Index := 6#32
  let c512_179 : Index := 512#32
  let c0_180 : Index := 0#32
  ![v652.toNat, 6, 512, 0]
def k0_off71 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v693 : Index := Scalar.indexCast v82
  let c1_186 : Index := 1#32
  let c768_187 : Index := 768#32
  let c0_188 : Index := 0#32
  ![v693.toNat, 1, 768, 0]
def k0_off72 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v734 : Index := Scalar.indexCast v82
  let c6_194 : Index := 6#32
  let c768_195 : Index := 768#32
  let c0_196 : Index := 0#32
  ![v734.toNat, 6, 768, 0]
def k0_off73 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v775 : Index := Scalar.indexCast v82
  let c2 : Index := 2#32
  let c0_202 : Index := 0#32
  let c0_203 : Index := 0#32
  ![v775.toNat, 2, 0, 0]
def k0_off74 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v816 : Index := Scalar.indexCast v82
  let c5 : Index := 5#32
  let c0_209 : Index := 0#32
  let c0_210 : Index := 0#32
  ![v816.toNat, 5, 0, 0]
def k0_off75 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v857 : Index := Scalar.indexCast v82
  let c2_216 : Index := 2#32
  let c256_217 : Index := 256#32
  let c0_218 : Index := 0#32
  ![v857.toNat, 2, 256, 0]
def k0_off76 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v898 : Index := Scalar.indexCast v82
  let c5_224 : Index := 5#32
  let c256_225 : Index := 256#32
  let c0_226 : Index := 0#32
  ![v898.toNat, 5, 256, 0]
def k0_off77 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v939 : Index := Scalar.indexCast v82
  let c2_232 : Index := 2#32
  let c512_233 : Index := 512#32
  let c0_234 : Index := 0#32
  ![v939.toNat, 2, 512, 0]
def k0_off78 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v980 : Index := Scalar.indexCast v82
  let c5_240 : Index := 5#32
  let c512_241 : Index := 512#32
  let c0_242 : Index := 0#32
  ![v980.toNat, 5, 512, 0]
def k0_off79 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1021 : Index := Scalar.indexCast v82
  let c2_248 : Index := 2#32
  let c768_249 : Index := 768#32
  let c0_250 : Index := 0#32
  ![v1021.toNat, 2, 768, 0]
def k0_off80 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1062 : Index := Scalar.indexCast v82
  let c5_256 : Index := 5#32
  let c768_257 : Index := 768#32
  let c0_258 : Index := 0#32
  ![v1062.toNat, 5, 768, 0]
def k0_off81 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1103 : Index := Scalar.indexCast v82
  let c3 : Index := 3#32
  let c0_264 : Index := 0#32
  let c0_265 : Index := 0#32
  ![v1103.toNat, 3, 0, 0]
def k0_off82 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1144 : Index := Scalar.indexCast v82
  let c4 : Index := 4#32
  let c0_271 : Index := 0#32
  let c0_272 : Index := 0#32
  ![v1144.toNat, 4, 0, 0]
def k0_off83 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1185 : Index := Scalar.indexCast v82
  let c3_278 : Index := 3#32
  let c256_279 : Index := 256#32
  let c0_280 : Index := 0#32
  ![v1185.toNat, 3, 256, 0]
def k0_off84 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1226 : Index := Scalar.indexCast v82
  let c4_286 : Index := 4#32
  let c256_287 : Index := 256#32
  let c0_288 : Index := 0#32
  ![v1226.toNat, 4, 256, 0]
def k0_off85 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1267 : Index := Scalar.indexCast v82
  let c3_294 : Index := 3#32
  let c512_295 : Index := 512#32
  let c0_296 : Index := 0#32
  ![v1267.toNat, 3, 512, 0]
def k0_off86 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1308 : Index := Scalar.indexCast v82
  let c4_302 : Index := 4#32
  let c512_303 : Index := 512#32
  let c0_304 : Index := 0#32
  ![v1308.toNat, 4, 512, 0]
def k0_off87 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1349 : Index := Scalar.indexCast v82
  let c3_310 : Index := 3#32
  let c768_311 : Index := 768#32
  let c0_312 : Index := 0#32
  ![v1349.toNat, 3, 768, 0]
def k0_off88 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v1390 : Index := Scalar.indexCast v82
  let c4_318 : Index := 4#32
  let c768_319 : Index := 768#32
  let c0_320 : Index := 0#32
  ![v1390.toNat, 4, 768, 0]
def k0_off89 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2763 : Index := Scalar.indexCast v82
  let c0_598 : Index := 0#32
  let c1024 : Index := 1024#32
  let c0_599 : Index := 0#32
  ![v2763.toNat, 0, 1024, 0]
def k0_off90 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2804 : Index := Scalar.indexCast v82
  let c7_605 : Index := 7#32
  let c1024_606 : Index := 1024#32
  let c0_607 : Index := 0#32
  ![v2804.toNat, 7, 1024, 0]
def k0_off91 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2845 : Index := Scalar.indexCast v82
  let c0_613 : Index := 0#32
  let c1280 : Index := 1280#32
  let c0_614 : Index := 0#32
  ![v2845.toNat, 0, 1280, 0]
def k0_off92 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2886 : Index := Scalar.indexCast v82
  let c7_620 : Index := 7#32
  let c1280_621 : Index := 1280#32
  let c0_622 : Index := 0#32
  ![v2886.toNat, 7, 1280, 0]
def k0_off93 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2927 : Index := Scalar.indexCast v82
  let c0_628 : Index := 0#32
  let c1536 : Index := 1536#32
  let c0_629 : Index := 0#32
  ![v2927.toNat, 0, 1536, 0]
def k0_off94 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v2968 : Index := Scalar.indexCast v82
  let c7_635 : Index := 7#32
  let c1536_636 : Index := 1536#32
  let c0_637 : Index := 0#32
  ![v2968.toNat, 7, 1536, 0]
def k0_off95 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3009 : Index := Scalar.indexCast v82
  let c0_643 : Index := 0#32
  let c1792 : Index := 1792#32
  let c0_644 : Index := 0#32
  ![v3009.toNat, 0, 1792, 0]
def k0_off96 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3050 : Index := Scalar.indexCast v82
  let c7_650 : Index := 7#32
  let c1792_651 : Index := 1792#32
  let c0_652 : Index := 0#32
  ![v3050.toNat, 7, 1792, 0]
def k0_off97 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3091 : Index := Scalar.indexCast v82
  let c1_658 : Index := 1#32
  let c1024_659 : Index := 1024#32
  let c0_660 : Index := 0#32
  ![v3091.toNat, 1, 1024, 0]
def k0_off98 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3132 : Index := Scalar.indexCast v82
  let c6_666 : Index := 6#32
  let c1024_667 : Index := 1024#32
  let c0_668 : Index := 0#32
  ![v3132.toNat, 6, 1024, 0]
def k0_off99 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3173 : Index := Scalar.indexCast v82
  let c1_674 : Index := 1#32
  let c1280_675 : Index := 1280#32
  let c0_676 : Index := 0#32
  ![v3173.toNat, 1, 1280, 0]
def k0_off100 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3214 : Index := Scalar.indexCast v82
  let c6_682 : Index := 6#32
  let c1280_683 : Index := 1280#32
  let c0_684 : Index := 0#32
  ![v3214.toNat, 6, 1280, 0]
def k0_off101 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3255 : Index := Scalar.indexCast v82
  let c1_690 : Index := 1#32
  let c1536_691 : Index := 1536#32
  let c0_692 : Index := 0#32
  ![v3255.toNat, 1, 1536, 0]
def k0_off102 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3296 : Index := Scalar.indexCast v82
  let c6_698 : Index := 6#32
  let c1536_699 : Index := 1536#32
  let c0_700 : Index := 0#32
  ![v3296.toNat, 6, 1536, 0]
def k0_off103 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3337 : Index := Scalar.indexCast v82
  let c1_706 : Index := 1#32
  let c1792_707 : Index := 1792#32
  let c0_708 : Index := 0#32
  ![v3337.toNat, 1, 1792, 0]
def k0_off104 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3378 : Index := Scalar.indexCast v82
  let c6_714 : Index := 6#32
  let c1792_715 : Index := 1792#32
  let c0_716 : Index := 0#32
  ![v3378.toNat, 6, 1792, 0]
def k0_off105 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3419 : Index := Scalar.indexCast v82
  let c2_722 : Index := 2#32
  let c1024_723 : Index := 1024#32
  let c0_724 : Index := 0#32
  ![v3419.toNat, 2, 1024, 0]
def k0_off106 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3460 : Index := Scalar.indexCast v82
  let c5_730 : Index := 5#32
  let c1024_731 : Index := 1024#32
  let c0_732 : Index := 0#32
  ![v3460.toNat, 5, 1024, 0]
def k0_off107 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3501 : Index := Scalar.indexCast v82
  let c2_738 : Index := 2#32
  let c1280_739 : Index := 1280#32
  let c0_740 : Index := 0#32
  ![v3501.toNat, 2, 1280, 0]
def k0_off108 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3542 : Index := Scalar.indexCast v82
  let c5_746 : Index := 5#32
  let c1280_747 : Index := 1280#32
  let c0_748 : Index := 0#32
  ![v3542.toNat, 5, 1280, 0]
def k0_off109 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3583 : Index := Scalar.indexCast v82
  let c2_754 : Index := 2#32
  let c1536_755 : Index := 1536#32
  let c0_756 : Index := 0#32
  ![v3583.toNat, 2, 1536, 0]
def k0_off110 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3624 : Index := Scalar.indexCast v82
  let c5_762 : Index := 5#32
  let c1536_763 : Index := 1536#32
  let c0_764 : Index := 0#32
  ![v3624.toNat, 5, 1536, 0]
def k0_off111 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3665 : Index := Scalar.indexCast v82
  let c2_770 : Index := 2#32
  let c1792_771 : Index := 1792#32
  let c0_772 : Index := 0#32
  ![v3665.toNat, 2, 1792, 0]
def k0_off112 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3706 : Index := Scalar.indexCast v82
  let c5_778 : Index := 5#32
  let c1792_779 : Index := 1792#32
  let c0_780 : Index := 0#32
  ![v3706.toNat, 5, 1792, 0]
def k0_off113 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3747 : Index := Scalar.indexCast v82
  let c3_786 : Index := 3#32
  let c1024_787 : Index := 1024#32
  let c0_788 : Index := 0#32
  ![v3747.toNat, 3, 1024, 0]
def k0_off114 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3788 : Index := Scalar.indexCast v82
  let c4_794 : Index := 4#32
  let c1024_795 : Index := 1024#32
  let c0_796 : Index := 0#32
  ![v3788.toNat, 4, 1024, 0]
def k0_off115 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3829 : Index := Scalar.indexCast v82
  let c3_802 : Index := 3#32
  let c1280_803 : Index := 1280#32
  let c0_804 : Index := 0#32
  ![v3829.toNat, 3, 1280, 0]
def k0_off116 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3870 : Index := Scalar.indexCast v82
  let c4_810 : Index := 4#32
  let c1280_811 : Index := 1280#32
  let c0_812 : Index := 0#32
  ![v3870.toNat, 4, 1280, 0]
def k0_off117 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3911 : Index := Scalar.indexCast v82
  let c3_818 : Index := 3#32
  let c1536_819 : Index := 1536#32
  let c0_820 : Index := 0#32
  ![v3911.toNat, 3, 1536, 0]
def k0_off118 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3952 : Index := Scalar.indexCast v82
  let c4_826 : Index := 4#32
  let c1536_827 : Index := 1536#32
  let c0_828 : Index := 0#32
  ![v3952.toNat, 4, 1536, 0]
def k0_off119 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v3993 : Index := Scalar.indexCast v82
  let c3_834 : Index := 3#32
  let c1792_835 : Index := 1792#32
  let c0_836 : Index := 0#32
  ![v3993.toNat, 3, 1792, 0]
def k0_off120 (i : grid0.Coords) : Fin 4 → Nat :=
  let arg0 : BitVec 32 := BitVec.ofNat 32 (i 0).val
  let c2_i32_57 : BitVec 32 := 2#32
  let c0_i32_58 : BitVec 32 := 0#32
  let v73 : BitVec 1 := Scalar.cmpi .eq c2_i32_57 c0_i32_58
  let c1_i32_59 : BitVec 32 := 1#32
  let v74 : BitVec 32 := Scalar.select v73 c1_i32_59 c2_i32_57
  let v75 : BitVec 32 := Scalar.remsi arg0 v74
  let c0_i32_61 : BitVec 32 := 0#32
  let v77 : BitVec 1 := Scalar.cmpi .slt v75 c0_i32_61
  let c0_i32_62 : BitVec 32 := 0#32
  let v78 : BitVec 1 := Scalar.cmpi .slt v74 c0_i32_62
  let v79 : BitVec 1 := Scalar.xori v77 v78
  let c0_i32_60 : BitVec 32 := 0#32
  let v76 : BitVec 1 := Scalar.cmpi .ne v75 c0_i32_60
  let v80 : BitVec 1 := Scalar.andi v79 v76
  let v81 : BitVec 32 := Scalar.addi v75 v74
  let v82 : BitVec 32 := Scalar.select v80 v81 v75
  let v4034 : Index := Scalar.indexCast v82
  let c4_842 : Index := 4#32
  let c1792_843 : Index := 1792#32
  let c0_844 : Index := 0#32
  ![v4034.toNat, 4, 1792, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x8x128 : Shape := ⟨3, ![100000, 8, 128]⟩
abbrev S100000x8 : Shape := ⟨2, ![100000, 8]⟩
abbrev S96x128 : Shape := ⟨2, ![96, 128]⟩
abbrev S96x32 : Shape := ⟨2, ![96, 32]⟩
abbrev S96 : Shape := ⟨1, ![96]⟩
abbrev S_ : Shape := ⟨0, ![]⟩
abbrev S8 : Shape := ⟨1, ![8]⟩
abbrev S1x8 : Shape := ⟨2, ![1, 8]⟩
abbrev S100000 : Shape := ⟨1, ![100000]⟩
abbrev S100000x8x96 : Shape := ⟨3, ![100000, 8, 96]⟩
abbrev S1x1x96 : Shape := ⟨3, ![1, 1, 96]⟩
abbrev S100000x32 : Shape := ⟨2, ![100000, 32]⟩
abbrev S100000x1x96 : Shape := ⟨3, ![100000, 1, 96]⟩
abbrev S100000x96 : Shape := ⟨2, ![100000, 96]⟩
abbrev S32x96 : Shape := ⟨2, ![32, 96]⟩
abbrev S1x96 : Shape := ⟨2, ![1, 96]⟩
abbrev S100000x1 : Shape := ⟨2, ![100000, 1]⟩
abbrev S100000x8x1 : Shape := ⟨3, ![100000, 8, 1]⟩
abbrev S1 : Shape := ⟨1, ![1]⟩
abbrev S1x1x1 : Shape := ⟨3, ![1, 1, 1]⟩

abbrev nBuf : Space → Nat
  | .hbm => 811
  | .vmem => 0
  | .smem => 0
  | _ => 0

abbrev hbmTy0_0 (i : Nat) : BufTy := match i % 128 with
  | 0 => ⟨S100000x8x128, .f32⟩
  | 1 => ⟨S100000x8, .i32⟩
  | 2 => ⟨S96x128, .f32⟩
  | 3 => ⟨S96x32, .f32⟩
  | 4 => ⟨S96, .f32⟩
  | 5 => ⟨S96, .f32⟩
  | 6 => ⟨S96x128, .f32⟩
  | 7 => ⟨S96x32, .f32⟩
  | 8 => ⟨S96, .f32⟩
  | 9 => ⟨S96, .f32⟩
  | 10 => ⟨S_, .i32⟩
  | 11 => ⟨S100000x8, .i32⟩
  | 12 => ⟨S100000x8, .i1⟩
  | 13 => ⟨S8, .i32⟩
  | 14 => ⟨S1x8, .i32⟩
  | 15 => ⟨S_, .i32⟩
  | 16 => ⟨S_, .i32⟩
  | 17 => ⟨S100000x8, .i32⟩
  | 18 => ⟨S100000x8, .i32⟩
  | 19 => ⟨S100000x8, .i32⟩
  | 20 => ⟨S_, .i32⟩
  | 21 => ⟨S100000, .i32⟩
  | 22 => ⟨S100000x8x96, .f32⟩
  | 23 => ⟨S1x1x96, .f32⟩
  | 24 => ⟨S100000x8x96, .f32⟩
  | 25 => ⟨S100000x8x96, .f32⟩
  | 26 => ⟨S_, .f32⟩
  | 27 => ⟨S100000x32, .f32⟩
  | 28 => ⟨S100000x1x96, .f32⟩
  | 29 => ⟨S100000x96, .f32⟩
  | 30 => ⟨S32x96, .f32⟩
  | 31 => ⟨S100000x96, .f32⟩
  | 32 => ⟨S1x96, .f32⟩
  | 33 => ⟨S100000x96, .f32⟩
  | 34 => ⟨S100000x96, .f32⟩
  | 35 => ⟨S100000x32, .f32⟩
  | 36 => ⟨S100000x32, .f32⟩
  | 37 => ⟨S100000x32, .f32⟩
  | 38 => ⟨S100000x32, .f32⟩
  | 39 => ⟨S100000x32, .f32⟩
  | 40 => ⟨S_, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S100000x32, .f32⟩
  | 47 => ⟨S100000x32, .f32⟩
  | 48 => ⟨S100000x32, .f32⟩
  | 49 => ⟨S100000x32, .f32⟩
  | 50 => ⟨S100000x32, .f32⟩
  | 51 => ⟨S_, .f32⟩
  | 52 => ⟨S100000x32, .f32⟩
  | 53 => ⟨S100000x32, .f32⟩
  | 54 => ⟨S_, .f32⟩
  | 55 => ⟨S100000x32, .f32⟩
  | 56 => ⟨S100000x32, .f32⟩
  | 57 => ⟨S100000x32, .f32⟩
  | 58 => ⟨S100000x32, .f32⟩
  | 59 => ⟨S100000x32, .f32⟩
  | 60 => ⟨S100000x32, .f32⟩
  | 61 => ⟨S100000x32, .f32⟩
  | 62 => ⟨S_, .f32⟩
  | 63 => ⟨S100000x32, .f32⟩
  | 64 => ⟨S100000x32, .f32⟩
  | 65 => ⟨S100000x32, .f32⟩
  | 66 => ⟨S100000x32, .f32⟩
  | 67 => ⟨S100000x32, .f32⟩
  | 68 => ⟨S_, .i32⟩
  | 69 => ⟨S100000, .i32⟩
  | 70 => ⟨S100000, .i1⟩
  | 71 => ⟨S100000x1, .i1⟩
  | 72 => ⟨S100000x32, .i1⟩
  | 73 => ⟨S100000x32, .f32⟩
  | 74 => ⟨S100000x1x96, .f32⟩
  | 75 => ⟨S100000x96, .f32⟩
  | 76 => ⟨S32x96, .f32⟩
  | 77 => ⟨S100000x96, .f32⟩
  | 78 => ⟨S1x96, .f32⟩
  | 79 => ⟨S100000x96, .f32⟩
  | 80 => ⟨S100000x96, .f32⟩
  | 81 => ⟨S100000x32, .f32⟩
  | 82 => ⟨S100000x32, .f32⟩
  | 83 => ⟨S100000x32, .f32⟩
  | 84 => ⟨S100000x32, .f32⟩
  | 85 => ⟨S100000x32, .f32⟩
  | 86 => ⟨S_, .f32⟩
  | 87 => ⟨S100000x32, .f32⟩
  | 88 => ⟨S100000x32, .f32⟩
  | 89 => ⟨S_, .f32⟩
  | 90 => ⟨S100000x32, .f32⟩
  | 91 => ⟨S100000x32, .f32⟩
  | 92 => ⟨S100000x32, .f32⟩
  | 93 => ⟨S100000x32, .f32⟩
  | 94 => ⟨S100000x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S100000x32, .f32⟩
  | 104 => ⟨S100000x32, .f32⟩
  | 105 => ⟨S100000x32, .f32⟩
  | 106 => ⟨S100000x32, .f32⟩
  | 107 => ⟨S100000x32, .f32⟩
  | 108 => ⟨S_, .f32⟩
  | 109 => ⟨S100000x32, .f32⟩
  | 110 => ⟨S100000x32, .f32⟩
  | 111 => ⟨S100000x32, .f32⟩
  | 112 => ⟨S100000x32, .f32⟩
  | 113 => ⟨S100000x32, .f32⟩
  | 114 => ⟨S_, .i32⟩
  | 115 => ⟨S100000, .i32⟩
  | 116 => ⟨S100000, .i1⟩
  | 117 => ⟨S100000x1, .i1⟩
  | 118 => ⟨S100000x32, .i1⟩
  | 119 => ⟨S100000x32, .f32⟩
  | 120 => ⟨S100000x1x96, .f32⟩
  | 121 => ⟨S100000x96, .f32⟩
  | 122 => ⟨S32x96, .f32⟩
  | 123 => ⟨S100000x96, .f32⟩
  | 124 => ⟨S1x96, .f32⟩
  | 125 => ⟨S100000x96, .f32⟩
  | 126 => ⟨S100000x96, .f32⟩
  | 127 => ⟨S100000x32, .f32⟩
  | _ => ⟨S100000x8x128, .f32⟩

abbrev hbmTy0_1 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S_, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S100000x32, .f32⟩
  | 11 => ⟨S100000x32, .f32⟩
  | 12 => ⟨S100000x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S100000x32, .f32⟩
  | 22 => ⟨S100000x32, .f32⟩
  | 23 => ⟨S100000x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x32, .f32⟩
  | 30 => ⟨S100000x32, .f32⟩
  | 31 => ⟨S100000x32, .f32⟩
  | 32 => ⟨S_, .i32⟩
  | 33 => ⟨S100000, .i32⟩
  | 34 => ⟨S100000, .i1⟩
  | 35 => ⟨S100000x1, .i1⟩
  | 36 => ⟨S100000x32, .i1⟩
  | 37 => ⟨S100000x32, .f32⟩
  | 38 => ⟨S100000x1x96, .f32⟩
  | 39 => ⟨S100000x96, .f32⟩
  | 40 => ⟨S32x96, .f32⟩
  | 41 => ⟨S100000x96, .f32⟩
  | 42 => ⟨S1x96, .f32⟩
  | 43 => ⟨S100000x96, .f32⟩
  | 44 => ⟨S100000x96, .f32⟩
  | 45 => ⟨S100000x32, .f32⟩
  | 46 => ⟨S100000x32, .f32⟩
  | 47 => ⟨S100000x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S100000x32, .f32⟩
  | 58 => ⟨S100000x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S100000x32, .f32⟩
  | 68 => ⟨S100000x32, .f32⟩
  | 69 => ⟨S100000x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S100000x32, .f32⟩
  | 76 => ⟨S100000x32, .f32⟩
  | 77 => ⟨S100000x32, .f32⟩
  | 78 => ⟨S_, .i32⟩
  | 79 => ⟨S100000, .i32⟩
  | 80 => ⟨S100000, .i1⟩
  | 81 => ⟨S100000x1, .i1⟩
  | 82 => ⟨S100000x32, .i1⟩
  | 83 => ⟨S100000x32, .f32⟩
  | 84 => ⟨S100000x1x96, .f32⟩
  | 85 => ⟨S100000x96, .f32⟩
  | 86 => ⟨S32x96, .f32⟩
  | 87 => ⟨S100000x96, .f32⟩
  | 88 => ⟨S1x96, .f32⟩
  | 89 => ⟨S100000x96, .f32⟩
  | 90 => ⟨S100000x96, .f32⟩
  | 91 => ⟨S100000x32, .f32⟩
  | 92 => ⟨S100000x32, .f32⟩
  | 93 => ⟨S100000x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S100000x32, .f32⟩
  | 103 => ⟨S100000x32, .f32⟩
  | 104 => ⟨S100000x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x32, .f32⟩
  | 114 => ⟨S100000x32, .f32⟩
  | 115 => ⟨S100000x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S100000x32, .f32⟩
  | 123 => ⟨S100000x32, .f32⟩
  | 124 => ⟨S_, .i32⟩
  | 125 => ⟨S100000, .i32⟩
  | 126 => ⟨S100000, .i1⟩
  | 127 => ⟨S100000x1, .i1⟩
  | _ => ⟨S100000x8x128, .f32⟩

abbrev hbmTy0_2 (i : Nat) : BufTy := match i % 128 with
  | 0 => ⟨S100000x32, .i1⟩
  | 1 => ⟨S100000x32, .f32⟩
  | 2 => ⟨S100000x1x96, .f32⟩
  | 3 => ⟨S100000x96, .f32⟩
  | 4 => ⟨S32x96, .f32⟩
  | 5 => ⟨S100000x96, .f32⟩
  | 6 => ⟨S1x96, .f32⟩
  | 7 => ⟨S100000x96, .f32⟩
  | 8 => ⟨S100000x96, .f32⟩
  | 9 => ⟨S100000x32, .f32⟩
  | 10 => ⟨S100000x32, .f32⟩
  | 11 => ⟨S100000x32, .f32⟩
  | 12 => ⟨S100000x32, .f32⟩
  | 13 => ⟨S100000x32, .f32⟩
  | 14 => ⟨S_, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S100000x32, .f32⟩
  | 22 => ⟨S100000x32, .f32⟩
  | 23 => ⟨S100000x32, .f32⟩
  | 24 => ⟨S100000x32, .f32⟩
  | 25 => ⟨S_, .f32⟩
  | 26 => ⟨S100000x32, .f32⟩
  | 27 => ⟨S100000x32, .f32⟩
  | 28 => ⟨S_, .f32⟩
  | 29 => ⟨S100000x32, .f32⟩
  | 30 => ⟨S100000x32, .f32⟩
  | 31 => ⟨S100000x32, .f32⟩
  | 32 => ⟨S100000x32, .f32⟩
  | 33 => ⟨S100000x32, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S100000x32, .f32⟩
  | 41 => ⟨S100000x32, .f32⟩
  | 42 => ⟨S_, .i32⟩
  | 43 => ⟨S100000, .i32⟩
  | 44 => ⟨S100000, .i1⟩
  | 45 => ⟨S100000x1, .i1⟩
  | 46 => ⟨S100000x32, .i1⟩
  | 47 => ⟨S100000x32, .f32⟩
  | 48 => ⟨S100000x1x96, .f32⟩
  | 49 => ⟨S100000x96, .f32⟩
  | 50 => ⟨S32x96, .f32⟩
  | 51 => ⟨S100000x96, .f32⟩
  | 52 => ⟨S1x96, .f32⟩
  | 53 => ⟨S100000x96, .f32⟩
  | 54 => ⟨S100000x96, .f32⟩
  | 55 => ⟨S100000x32, .f32⟩
  | 56 => ⟨S100000x32, .f32⟩
  | 57 => ⟨S100000x32, .f32⟩
  | 58 => ⟨S100000x32, .f32⟩
  | 59 => ⟨S100000x32, .f32⟩
  | 60 => ⟨S_, .f32⟩
  | 61 => ⟨S100000x32, .f32⟩
  | 62 => ⟨S100000x32, .f32⟩
  | 63 => ⟨S_, .f32⟩
  | 64 => ⟨S100000x32, .f32⟩
  | 65 => ⟨S100000x32, .f32⟩
  | 66 => ⟨S100000x32, .f32⟩
  | 67 => ⟨S100000x32, .f32⟩
  | 68 => ⟨S100000x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S100000x32, .f32⟩
  | 78 => ⟨S100000x32, .f32⟩
  | 79 => ⟨S100000x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S100000x32, .f32⟩
  | 86 => ⟨S100000x32, .f32⟩
  | 87 => ⟨S100000x32, .f32⟩
  | 88 => ⟨S_, .i32⟩
  | 89 => ⟨S100000, .i32⟩
  | 90 => ⟨S100000, .i1⟩
  | 91 => ⟨S100000x1, .i1⟩
  | 92 => ⟨S100000x32, .i1⟩
  | 93 => ⟨S100000x32, .f32⟩
  | 94 => ⟨S100000x1x96, .f32⟩
  | 95 => ⟨S100000x96, .f32⟩
  | 96 => ⟨S32x96, .f32⟩
  | 97 => ⟨S100000x96, .f32⟩
  | 98 => ⟨S1x96, .f32⟩
  | 99 => ⟨S100000x96, .f32⟩
  | 100 => ⟨S100000x96, .f32⟩
  | 101 => ⟨S100000x32, .f32⟩
  | 102 => ⟨S100000x32, .f32⟩
  | 103 => ⟨S100000x32, .f32⟩
  | 104 => ⟨S100000x32, .f32⟩
  | 105 => ⟨S100000x32, .f32⟩
  | 106 => ⟨S_, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S100000x32, .f32⟩
  | 113 => ⟨S100000x32, .f32⟩
  | 114 => ⟨S100000x32, .f32⟩
  | 115 => ⟨S100000x32, .f32⟩
  | 116 => ⟨S100000x32, .f32⟩
  | 117 => ⟨S_, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S100000x32, .f32⟩
  | 124 => ⟨S100000x32, .f32⟩
  | 125 => ⟨S100000x32, .f32⟩
  | 126 => ⟨S100000x32, .f32⟩
  | 127 => ⟨S100000x32, .f32⟩
  | _ => ⟨S100000x8x128, .f32⟩

abbrev hbmTy0_3 (i : Nat) : BufTy := match i % 128 with
  | 0 => ⟨S_, .f32⟩
  | 1 => ⟨S100000x32, .f32⟩
  | 2 => ⟨S100000x32, .f32⟩
  | 3 => ⟨S100000x32, .f32⟩
  | 4 => ⟨S100000x32, .f32⟩
  | 5 => ⟨S100000x32, .f32⟩
  | 6 => ⟨S_, .i32⟩
  | 7 => ⟨S100000, .i32⟩
  | 8 => ⟨S100000, .i1⟩
  | 9 => ⟨S100000x1, .i1⟩
  | 10 => ⟨S100000x32, .i1⟩
  | 11 => ⟨S100000x32, .f32⟩
  | 12 => ⟨S8, .i32⟩
  | 13 => ⟨S1x8, .i32⟩
  | 14 => ⟨S100000x1, .i32⟩
  | 15 => ⟨S_, .i32⟩
  | 16 => ⟨S100000x1, .i32⟩
  | 17 => ⟨S100000x1, .i32⟩
  | 18 => ⟨S100000x8, .i32⟩
  | 19 => ⟨S100000x8, .i32⟩
  | 20 => ⟨S100000x8, .i32⟩
  | 21 => ⟨S_, .i32⟩
  | 22 => ⟨S_, .i32⟩
  | 23 => ⟨S_, .i32⟩
  | 24 => ⟨S100000x8, .i32⟩
  | 25 => ⟨S100000x8, .i32⟩
  | 26 => ⟨S_, .i32⟩
  | 27 => ⟨S100000x8, .i32⟩
  | 28 => ⟨S100000x8, .i32⟩
  | 29 => ⟨S100000x8x1, .i32⟩
  | 30 => ⟨S_, .i32⟩
  | 31 => ⟨S100000x8x1, .i32⟩
  | 32 => ⟨S100000x8x1, .i1⟩
  | 33 => ⟨S_, .i32⟩
  | 34 => ⟨S100000x8x1, .i32⟩
  | 35 => ⟨S100000x8x1, .i32⟩
  | 36 => ⟨S100000x8x1, .i32⟩
  | 37 => ⟨S1, .i32⟩
  | 38 => ⟨S_, .i32⟩
  | 39 => ⟨S100000x8x1, .i32⟩
  | 40 => ⟨S100000x8x1, .i1⟩
  | 41 => ⟨S1x1x1, .i32⟩
  | 42 => ⟨S100000x8x1, .i32⟩
  | 43 => ⟨S100000x8x1, .i1⟩
  | 44 => ⟨S100000x8x1, .i1⟩
  | 45 => ⟨S_, .i1⟩
  | 46 => ⟨S100000x8, .i1⟩
  | 47 => ⟨S100000x8x128, .f32⟩
  | 48 => ⟨S100000x8x128, .i1⟩
  | 49 => ⟨S_, .f32⟩
  | 50 => ⟨S100000x8x128, .f32⟩
  | 51 => ⟨S100000x8x128, .f32⟩
  | 52 => ⟨S100000x8x96, .f32⟩
  | 53 => ⟨S1x1x96, .f32⟩
  | 54 => ⟨S100000x8x96, .f32⟩
  | 55 => ⟨S100000x8x96, .f32⟩
  | 56 => ⟨S_, .f32⟩
  | 57 => ⟨S100000x32, .f32⟩
  | 58 => ⟨S100000x1x96, .f32⟩
  | 59 => ⟨S100000x96, .f32⟩
  | 60 => ⟨S32x96, .f32⟩
  | 61 => ⟨S100000x96, .f32⟩
  | 62 => ⟨S1x96, .f32⟩
  | 63 => ⟨S100000x96, .f32⟩
  | 64 => ⟨S100000x96, .f32⟩
  | 65 => ⟨S100000x32, .f32⟩
  | 66 => ⟨S100000x32, .f32⟩
  | 67 => ⟨S100000x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x32, .f32⟩
  | 77 => ⟨S100000x32, .f32⟩
  | 78 => ⟨S100000x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S100000x32, .f32⟩
  | 96 => ⟨S100000x32, .f32⟩
  | 97 => ⟨S100000x32, .f32⟩
  | 98 => ⟨S_, .i32⟩
  | 99 => ⟨S100000, .i32⟩
  | 100 => ⟨S100000, .i1⟩
  | 101 => ⟨S100000x1, .i1⟩
  | 102 => ⟨S100000x32, .i1⟩
  | 103 => ⟨S100000x32, .f32⟩
  | 104 => ⟨S100000x1x96, .f32⟩
  | 105 => ⟨S100000x96, .f32⟩
  | 106 => ⟨S32x96, .f32⟩
  | 107 => ⟨S100000x96, .f32⟩
  | 108 => ⟨S1x96, .f32⟩
  | 109 => ⟨S100000x96, .f32⟩
  | 110 => ⟨S100000x96, .f32⟩
  | 111 => ⟨S100000x32, .f32⟩
  | 112 => ⟨S100000x32, .f32⟩
  | 113 => ⟨S100000x32, .f32⟩
  | 114 => ⟨S100000x32, .f32⟩
  | 115 => ⟨S100000x32, .f32⟩
  | 116 => ⟨S_, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S100000x32, .f32⟩
  | 123 => ⟨S100000x32, .f32⟩
  | 124 => ⟨S100000x32, .f32⟩
  | 125 => ⟨S100000x32, .f32⟩
  | 126 => ⟨S100000x32, .f32⟩
  | 127 => ⟨S_, .f32⟩
  | _ => ⟨S100000x8x128, .f32⟩

abbrev hbmTy0_4 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x32, .f32⟩
  | 6 => ⟨S100000x32, .f32⟩
  | 7 => ⟨S100000x32, .f32⟩
  | 8 => ⟨S100000x32, .f32⟩
  | 9 => ⟨S100000x32, .f32⟩
  | 10 => ⟨S_, .f32⟩
  | 11 => ⟨S100000x32, .f32⟩
  | 12 => ⟨S100000x32, .f32⟩
  | 13 => ⟨S100000x32, .f32⟩
  | 14 => ⟨S100000x32, .f32⟩
  | 15 => ⟨S100000x32, .f32⟩
  | 16 => ⟨S_, .i32⟩
  | 17 => ⟨S100000, .i32⟩
  | 18 => ⟨S100000, .i1⟩
  | 19 => ⟨S100000x1, .i1⟩
  | 20 => ⟨S100000x32, .i1⟩
  | 21 => ⟨S100000x32, .f32⟩
  | 22 => ⟨S100000x1x96, .f32⟩
  | 23 => ⟨S100000x96, .f32⟩
  | 24 => ⟨S32x96, .f32⟩
  | 25 => ⟨S100000x96, .f32⟩
  | 26 => ⟨S1x96, .f32⟩
  | 27 => ⟨S100000x96, .f32⟩
  | 28 => ⟨S100000x96, .f32⟩
  | 29 => ⟨S100000x32, .f32⟩
  | 30 => ⟨S100000x32, .f32⟩
  | 31 => ⟨S100000x32, .f32⟩
  | 32 => ⟨S100000x32, .f32⟩
  | 33 => ⟨S100000x32, .f32⟩
  | 34 => ⟨S_, .f32⟩
  | 35 => ⟨S100000x32, .f32⟩
  | 36 => ⟨S100000x32, .f32⟩
  | 37 => ⟨S_, .f32⟩
  | 38 => ⟨S100000x32, .f32⟩
  | 39 => ⟨S100000x32, .f32⟩
  | 40 => ⟨S100000x32, .f32⟩
  | 41 => ⟨S100000x32, .f32⟩
  | 42 => ⟨S100000x32, .f32⟩
  | 43 => ⟨S100000x32, .f32⟩
  | 44 => ⟨S100000x32, .f32⟩
  | 45 => ⟨S_, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S100000x32, .f32⟩
  | 53 => ⟨S100000x32, .f32⟩
  | 54 => ⟨S100000x32, .f32⟩
  | 55 => ⟨S100000x32, .f32⟩
  | 56 => ⟨S_, .f32⟩
  | 57 => ⟨S100000x32, .f32⟩
  | 58 => ⟨S100000x32, .f32⟩
  | 59 => ⟨S100000x32, .f32⟩
  | 60 => ⟨S100000x32, .f32⟩
  | 61 => ⟨S100000x32, .f32⟩
  | 62 => ⟨S_, .i32⟩
  | 63 => ⟨S100000, .i32⟩
  | 64 => ⟨S100000, .i1⟩
  | 65 => ⟨S100000x1, .i1⟩
  | 66 => ⟨S100000x32, .i1⟩
  | 67 => ⟨S100000x32, .f32⟩
  | 68 => ⟨S100000x1x96, .f32⟩
  | 69 => ⟨S100000x96, .f32⟩
  | 70 => ⟨S32x96, .f32⟩
  | 71 => ⟨S100000x96, .f32⟩
  | 72 => ⟨S1x96, .f32⟩
  | 73 => ⟨S100000x96, .f32⟩
  | 74 => ⟨S100000x96, .f32⟩
  | 75 => ⟨S100000x32, .f32⟩
  | 76 => ⟨S100000x32, .f32⟩
  | 77 => ⟨S100000x32, .f32⟩
  | 78 => ⟨S100000x32, .f32⟩
  | 79 => ⟨S100000x32, .f32⟩
  | 80 => ⟨S_, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x32, .f32⟩
  | 98 => ⟨S100000x32, .f32⟩
  | 99 => ⟨S100000x32, .f32⟩
  | 100 => ⟨S100000x32, .f32⟩
  | 101 => ⟨S100000x32, .f32⟩
  | 102 => ⟨S_, .f32⟩
  | 103 => ⟨S100000x32, .f32⟩
  | 104 => ⟨S100000x32, .f32⟩
  | 105 => ⟨S100000x32, .f32⟩
  | 106 => ⟨S100000x32, .f32⟩
  | 107 => ⟨S100000x32, .f32⟩
  | 108 => ⟨S_, .i32⟩
  | 109 => ⟨S100000, .i32⟩
  | 110 => ⟨S100000, .i1⟩
  | 111 => ⟨S100000x1, .i1⟩
  | 112 => ⟨S100000x32, .i1⟩
  | 113 => ⟨S100000x32, .f32⟩
  | 114 => ⟨S100000x1x96, .f32⟩
  | 115 => ⟨S100000x96, .f32⟩
  | 116 => ⟨S32x96, .f32⟩
  | 117 => ⟨S100000x96, .f32⟩
  | 118 => ⟨S1x96, .f32⟩
  | 119 => ⟨S100000x96, .f32⟩
  | 120 => ⟨S100000x96, .f32⟩
  | 121 => ⟨S100000x32, .f32⟩
  | 122 => ⟨S100000x32, .f32⟩
  | 123 => ⟨S100000x32, .f32⟩
  | 124 => ⟨S100000x32, .f32⟩
  | 125 => ⟨S100000x32, .f32⟩
  | 126 => ⟨S_, .f32⟩
  | 127 => ⟨S100000x32, .f32⟩
  | _ => ⟨S100000x8x128, .f32⟩

abbrev hbmTy0_5 (i : Nat) : BufTy := match i % 128 with
  | 0 => ⟨S100000x32, .f32⟩
  | 1 => ⟨S_, .f32⟩
  | 2 => ⟨S100000x32, .f32⟩
  | 3 => ⟨S100000x32, .f32⟩
  | 4 => ⟨S100000x32, .f32⟩
  | 5 => ⟨S100000x32, .f32⟩
  | 6 => ⟨S100000x32, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x32, .f32⟩
  | 16 => ⟨S100000x32, .f32⟩
  | 17 => ⟨S100000x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S100000x32, .f32⟩
  | 24 => ⟨S100000x32, .f32⟩
  | 25 => ⟨S100000x32, .f32⟩
  | 26 => ⟨S_, .i32⟩
  | 27 => ⟨S100000, .i32⟩
  | 28 => ⟨S100000, .i1⟩
  | 29 => ⟨S100000x1, .i1⟩
  | 30 => ⟨S100000x32, .i1⟩
  | 31 => ⟨S100000x32, .f32⟩
  | 32 => ⟨S100000x1x96, .f32⟩
  | 33 => ⟨S100000x96, .f32⟩
  | 34 => ⟨S32x96, .f32⟩
  | 35 => ⟨S100000x96, .f32⟩
  | 36 => ⟨S1x96, .f32⟩
  | 37 => ⟨S100000x96, .f32⟩
  | 38 => ⟨S100000x96, .f32⟩
  | 39 => ⟨S100000x32, .f32⟩
  | 40 => ⟨S100000x32, .f32⟩
  | 41 => ⟨S100000x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S_, .f32⟩
  | 48 => ⟨S100000x32, .f32⟩
  | 49 => ⟨S100000x32, .f32⟩
  | 50 => ⟨S100000x32, .f32⟩
  | 51 => ⟨S100000x32, .f32⟩
  | 52 => ⟨S100000x32, .f32⟩
  | 53 => ⟨S100000x32, .f32⟩
  | 54 => ⟨S100000x32, .f32⟩
  | 55 => ⟨S_, .f32⟩
  | 56 => ⟨S100000x32, .f32⟩
  | 57 => ⟨S100000x32, .f32⟩
  | 58 => ⟨S_, .f32⟩
  | 59 => ⟨S100000x32, .f32⟩
  | 60 => ⟨S100000x32, .f32⟩
  | 61 => ⟨S100000x32, .f32⟩
  | 62 => ⟨S100000x32, .f32⟩
  | 63 => ⟨S100000x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x32, .f32⟩
  | 70 => ⟨S100000x32, .f32⟩
  | 71 => ⟨S100000x32, .f32⟩
  | 72 => ⟨S_, .i32⟩
  | 73 => ⟨S100000, .i32⟩
  | 74 => ⟨S100000, .i1⟩
  | 75 => ⟨S100000x1, .i1⟩
  | 76 => ⟨S100000x32, .i1⟩
  | 77 => ⟨S100000x32, .f32⟩
  | 78 => ⟨S100000x1x96, .f32⟩
  | 79 => ⟨S100000x96, .f32⟩
  | 80 => ⟨S32x96, .f32⟩
  | 81 => ⟨S100000x96, .f32⟩
  | 82 => ⟨S1x96, .f32⟩
  | 83 => ⟨S100000x96, .f32⟩
  | 84 => ⟨S100000x96, .f32⟩
  | 85 => ⟨S100000x32, .f32⟩
  | 86 => ⟨S100000x32, .f32⟩
  | 87 => ⟨S100000x32, .f32⟩
  | 88 => ⟨S100000x32, .f32⟩
  | 89 => ⟨S100000x32, .f32⟩
  | 90 => ⟨S_, .f32⟩
  | 91 => ⟨S100000x32, .f32⟩
  | 92 => ⟨S100000x32, .f32⟩
  | 93 => ⟨S_, .f32⟩
  | 94 => ⟨S100000x32, .f32⟩
  | 95 => ⟨S100000x32, .f32⟩
  | 96 => ⟨S100000x32, .f32⟩
  | 97 => ⟨S100000x32, .f32⟩
  | 98 => ⟨S100000x32, .f32⟩
  | 99 => ⟨S100000x32, .f32⟩
  | 100 => ⟨S100000x32, .f32⟩
  | 101 => ⟨S_, .f32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S100000x32, .f32⟩
  | 108 => ⟨S100000x32, .f32⟩
  | 109 => ⟨S100000x32, .f32⟩
  | 110 => ⟨S100000x32, .f32⟩
  | 111 => ⟨S100000x32, .f32⟩
  | 112 => ⟨S_, .f32⟩
  | 113 => ⟨S100000x32, .f32⟩
  | 114 => ⟨S100000x32, .f32⟩
  | 115 => ⟨S100000x32, .f32⟩
  | 116 => ⟨S100000x32, .f32⟩
  | 117 => ⟨S100000x32, .f32⟩
  | 118 => ⟨S_, .i32⟩
  | 119 => ⟨S100000, .i32⟩
  | 120 => ⟨S100000, .i1⟩
  | 121 => ⟨S100000x1, .i1⟩
  | 122 => ⟨S100000x32, .i1⟩
  | 123 => ⟨S100000x32, .f32⟩
  | 124 => ⟨S100000x1x96, .f32⟩
  | 125 => ⟨S100000x96, .f32⟩
  | 126 => ⟨S32x96, .f32⟩
  | 127 => ⟨S100000x96, .f32⟩
  | _ => ⟨S100000x8x128, .f32⟩

abbrev hbmTy0_6 (i : Nat) : BufTy := match i % 128 with
  | 0 => ⟨S1x96, .f32⟩
  | 1 => ⟨S100000x96, .f32⟩
  | 2 => ⟨S100000x96, .f32⟩
  | 3 => ⟨S100000x32, .f32⟩
  | 4 => ⟨S100000x32, .f32⟩
  | 5 => ⟨S100000x32, .f32⟩
  | 6 => ⟨S100000x32, .f32⟩
  | 7 => ⟨S100000x32, .f32⟩
  | 8 => ⟨S_, .f32⟩
  | 9 => ⟨S100000x32, .f32⟩
  | 10 => ⟨S100000x32, .f32⟩
  | 11 => ⟨S_, .f32⟩
  | 12 => ⟨S100000x32, .f32⟩
  | 13 => ⟨S100000x32, .f32⟩
  | 14 => ⟨S100000x32, .f32⟩
  | 15 => ⟨S100000x32, .f32⟩
  | 16 => ⟨S100000x32, .f32⟩
  | 17 => ⟨S100000x32, .f32⟩
  | 18 => ⟨S100000x32, .f32⟩
  | 19 => ⟨S_, .f32⟩
  | 20 => ⟨S100000x32, .f32⟩
  | 21 => ⟨S100000x32, .f32⟩
  | 22 => ⟨S_, .f32⟩
  | 23 => ⟨S100000x32, .f32⟩
  | 24 => ⟨S100000x32, .f32⟩
  | 25 => ⟨S100000x32, .f32⟩
  | 26 => ⟨S100000x32, .f32⟩
  | 27 => ⟨S100000x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S100000x32, .f32⟩
  | 34 => ⟨S100000x32, .f32⟩
  | 35 => ⟨S100000x32, .f32⟩
  | 36 => ⟨S_, .i32⟩
  | 37 => ⟨S100000, .i32⟩
  | 38 => ⟨S100000, .i1⟩
  | 39 => ⟨S100000x1, .i1⟩
  | 40 => ⟨S100000x32, .i1⟩
  | 41 => ⟨S100000x32, .f32⟩
  | 42 => ⟨S100000x32, .f32⟩
  | _ => ⟨S100000x8x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x8x128, .f32⟩

abbrev bufTy : (tb : Table) → Fin (tcTables nBuf tb) → BufTy
  | .hbm, ⟨i, _⟩ => hbmTy i
  | _, _ => ⟨S100000x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_cst_11 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call2_v0 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_cst_15 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_16 : Ref sig .tc := ⟨.hbm, 143, rfl⟩
abbrev main_v110 : Ref sig .tc := ⟨.hbm, 144, rfl⟩
abbrev main_v111 : Ref sig .tc := ⟨.hbm, 145, rfl⟩
abbrev main_cst_17 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_18 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_c_19 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call3_v0 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_20 : Ref sig .tc := ⟨.hbm, 178, rfl⟩
abbrev main_v140 : Ref sig .tc := ⟨.hbm, 179, rfl⟩
abbrev main_v141 : Ref sig .tc := ⟨.hbm, 180, rfl⟩
abbrev main_cst_21 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_22 : Ref sig .tc := ⟨.hbm, 189, rfl⟩
abbrev main_v149 : Ref sig .tc := ⟨.hbm, 190, rfl⟩
abbrev main_v150 : Ref sig .tc := ⟨.hbm, 191, rfl⟩
abbrev main_cst_23 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_24 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_c_25 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_call4_v0 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_26 : Ref sig .tc := ⟨.hbm, 224, rfl⟩
abbrev main_v179 : Ref sig .tc := ⟨.hbm, 225, rfl⟩
abbrev main_v180 : Ref sig .tc := ⟨.hbm, 226, rfl⟩
abbrev main_cst_27 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_28 : Ref sig .tc := ⟨.hbm, 235, rfl⟩
abbrev main_v188 : Ref sig .tc := ⟨.hbm, 236, rfl⟩
abbrev main_v189 : Ref sig .tc := ⟨.hbm, 237, rfl⟩
abbrev main_cst_29 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_cst_30 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_c_31 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_call5_v0 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_cst_32 : Ref sig .tc := ⟨.hbm, 270, rfl⟩
abbrev main_v218 : Ref sig .tc := ⟨.hbm, 271, rfl⟩
abbrev main_v219 : Ref sig .tc := ⟨.hbm, 272, rfl⟩
abbrev main_cst_33 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_cst_34 : Ref sig .tc := ⟨.hbm, 281, rfl⟩
abbrev main_v227 : Ref sig .tc := ⟨.hbm, 282, rfl⟩
abbrev main_v228 : Ref sig .tc := ⟨.hbm, 283, rfl⟩
abbrev main_cst_35 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_cst_36 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_c_37 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_call6_v0 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_38 : Ref sig .tc := ⟨.hbm, 316, rfl⟩
abbrev main_v257 : Ref sig .tc := ⟨.hbm, 317, rfl⟩
abbrev main_v258 : Ref sig .tc := ⟨.hbm, 318, rfl⟩
abbrev main_cst_39 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_cst_40 : Ref sig .tc := ⟨.hbm, 327, rfl⟩
abbrev main_v266 : Ref sig .tc := ⟨.hbm, 328, rfl⟩
abbrev main_v267 : Ref sig .tc := ⟨.hbm, 329, rfl⟩
abbrev main_cst_41 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_cst_42 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_c_43 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_call7_v0 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_cst_44 : Ref sig .tc := ⟨.hbm, 362, rfl⟩
abbrev main_v296 : Ref sig .tc := ⟨.hbm, 363, rfl⟩
abbrev main_v297 : Ref sig .tc := ⟨.hbm, 364, rfl⟩
abbrev main_cst_45 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_cst_46 : Ref sig .tc := ⟨.hbm, 373, rfl⟩
abbrev main_v305 : Ref sig .tc := ⟨.hbm, 374, rfl⟩
abbrev main_v306 : Ref sig .tc := ⟨.hbm, 375, rfl⟩
abbrev main_cst_47 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_cst_48 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_c_49 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_call8_v0 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_c_50 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_c_51 : Ref sig .tc := ⟨.hbm, 405, rfl⟩
abbrev main_c_52 : Ref sig .tc := ⟨.hbm, 406, rfl⟩
abbrev main_call9_v0 : Ref sig .tc := ⟨.hbm, 407, rfl⟩
abbrev main_call9_v1 : Ref sig .tc := ⟨.hbm, 408, rfl⟩
abbrev main_call9_v2 : Ref sig .tc := ⟨.hbm, 409, rfl⟩
abbrev main_call9_v3 : Ref sig .tc := ⟨.hbm, 410, rfl⟩
abbrev main_call9_v4 : Ref sig .tc := ⟨.hbm, 411, rfl⟩
abbrev main_v331 : Ref sig .tc := ⟨.hbm, 412, rfl⟩
abbrev main_v332 : Ref sig .tc := ⟨.hbm, 413, rfl⟩
abbrev main_call10_c : Ref sig .tc := ⟨.hbm, 414, rfl⟩
abbrev main_call10_v0 : Ref sig .tc := ⟨.hbm, 415, rfl⟩
abbrev main_call10_v1 : Ref sig .tc := ⟨.hbm, 416, rfl⟩
abbrev main_call10_c_0 : Ref sig .tc := ⟨.hbm, 417, rfl⟩
abbrev main_call10_v2 : Ref sig .tc := ⟨.hbm, 418, rfl⟩
abbrev main_call10_v3 : Ref sig .tc := ⟨.hbm, 419, rfl⟩
abbrev main_call10_v4 : Ref sig .tc := ⟨.hbm, 420, rfl⟩
abbrev main_call10_c_1 : Ref sig .tc := ⟨.hbm, 421, rfl⟩
abbrev main_call10_c_2 : Ref sig .tc := ⟨.hbm, 422, rfl⟩
abbrev main_call10_v5 : Ref sig .tc := ⟨.hbm, 423, rfl⟩
abbrev main_call10_v6 : Ref sig .tc := ⟨.hbm, 424, rfl⟩
abbrev main_call10_v7 : Ref sig .tc := ⟨.hbm, 425, rfl⟩
abbrev main_call10_v8 : Ref sig .tc := ⟨.hbm, 426, rfl⟩
abbrev main_call10_v9 : Ref sig .tc := ⟨.hbm, 427, rfl⟩
abbrev main_call10_v10 : Ref sig .tc := ⟨.hbm, 428, rfl⟩
abbrev main_call10_c_3 : Ref sig .tc := ⟨.hbm, 429, rfl⟩
abbrev main_call10_v11 : Ref sig .tc := ⟨.hbm, 430, rfl⟩
abbrev main_call10_v12 : Ref sig .tc := ⟨.hbm, 431, rfl⟩
abbrev main_call10_v13 : Ref sig .tc := ⟨.hbm, 432, rfl⟩
abbrev main_call10_cst : Ref sig .tc := ⟨.hbm, 433, rfl⟩
abbrev main_call10_v14 : Ref sig .tc := ⟨.hbm, 434, rfl⟩
abbrev main_v333 : Ref sig .tc := ⟨.hbm, 435, rfl⟩
abbrev main_v334 : Ref sig .tc := ⟨.hbm, 436, rfl⟩
abbrev main_v335 : Ref sig .tc := ⟨.hbm, 437, rfl⟩
abbrev main_v336 : Ref sig .tc := ⟨.hbm, 438, rfl⟩
abbrev main_v337 : Ref sig .tc := ⟨.hbm, 439, rfl⟩
abbrev main_cst_53 : Ref sig .tc := ⟨.hbm, 440, rfl⟩
abbrev main_v338 : Ref sig .tc := ⟨.hbm, 441, rfl⟩
abbrev main_v339 : Ref sig .tc := ⟨.hbm, 442, rfl⟩
abbrev main_v340 : Ref sig .tc := ⟨.hbm, 443, rfl⟩
abbrev main_v341 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_cst_54 : Ref sig .tc := ⟨.hbm, 454, rfl⟩
abbrev main_v351 : Ref sig .tc := ⟨.hbm, 455, rfl⟩
abbrev main_v352 : Ref sig .tc := ⟨.hbm, 456, rfl⟩
abbrev main_cst_55 : Ref sig .tc := ⟨.hbm, 457, rfl⟩
abbrev main_v353 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_v358 : Ref sig .tc := ⟨.hbm, 463, rfl⟩
abbrev main_v359 : Ref sig .tc := ⟨.hbm, 464, rfl⟩
abbrev main_cst_56 : Ref sig .tc := ⟨.hbm, 465, rfl⟩
abbrev main_v360 : Ref sig .tc := ⟨.hbm, 466, rfl⟩
abbrev main_v361 : Ref sig .tc := ⟨.hbm, 467, rfl⟩
abbrev main_cst_57 : Ref sig .tc := ⟨.hbm, 468, rfl⟩
abbrev main_v362 : Ref sig .tc := ⟨.hbm, 469, rfl⟩
abbrev main_v363 : Ref sig .tc := ⟨.hbm, 470, rfl⟩
abbrev main_v364 : Ref sig .tc := ⟨.hbm, 471, rfl⟩
abbrev main_v365 : Ref sig .tc := ⟨.hbm, 472, rfl⟩
abbrev main_v366 : Ref sig .tc := ⟨.hbm, 473, rfl⟩
abbrev main_v367 : Ref sig .tc := ⟨.hbm, 474, rfl⟩
abbrev main_v368 : Ref sig .tc := ⟨.hbm, 475, rfl⟩
abbrev main_cst_58 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_v373 : Ref sig .tc := ⟨.hbm, 481, rfl⟩
abbrev main_c_59 : Ref sig .tc := ⟨.hbm, 482, rfl⟩
abbrev main_v374 : Ref sig .tc := ⟨.hbm, 483, rfl⟩
abbrev main_v375 : Ref sig .tc := ⟨.hbm, 484, rfl⟩
abbrev main_v376 : Ref sig .tc := ⟨.hbm, 485, rfl⟩
abbrev main_call11_v0 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_v380 : Ref sig .tc := ⟨.hbm, 490, rfl⟩
abbrev main_v381 : Ref sig .tc := ⟨.hbm, 491, rfl⟩
abbrev main_v382 : Ref sig .tc := ⟨.hbm, 492, rfl⟩
abbrev main_v383 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_v388 : Ref sig .tc := ⟨.hbm, 498, rfl⟩
abbrev main_v389 : Ref sig .tc := ⟨.hbm, 499, rfl⟩
abbrev main_cst_60 : Ref sig .tc := ⟨.hbm, 500, rfl⟩
abbrev main_v390 : Ref sig .tc := ⟨.hbm, 501, rfl⟩
abbrev main_v391 : Ref sig .tc := ⟨.hbm, 502, rfl⟩
abbrev main_cst_61 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_v395 : Ref sig .tc := ⟨.hbm, 507, rfl⟩
abbrev main_v396 : Ref sig .tc := ⟨.hbm, 508, rfl⟩
abbrev main_v397 : Ref sig .tc := ⟨.hbm, 509, rfl⟩
abbrev main_v398 : Ref sig .tc := ⟨.hbm, 510, rfl⟩
abbrev main_cst_62 : Ref sig .tc := ⟨.hbm, 511, rfl⟩
abbrev main_v399 : Ref sig .tc := ⟨.hbm, 512, rfl⟩
abbrev main_v400 : Ref sig .tc := ⟨.hbm, 513, rfl⟩
abbrev main_cst_63 : Ref sig .tc := ⟨.hbm, 514, rfl⟩
abbrev main_v401 : Ref sig .tc := ⟨.hbm, 515, rfl⟩
abbrev main_v402 : Ref sig .tc := ⟨.hbm, 516, rfl⟩
abbrev main_v403 : Ref sig .tc := ⟨.hbm, 517, rfl⟩
abbrev main_v404 : Ref sig .tc := ⟨.hbm, 518, rfl⟩
abbrev main_v405 : Ref sig .tc := ⟨.hbm, 519, rfl⟩
abbrev main_v406 : Ref sig .tc := ⟨.hbm, 520, rfl⟩
abbrev main_v407 : Ref sig .tc := ⟨.hbm, 521, rfl⟩
abbrev main_cst_64 : Ref sig .tc := ⟨.hbm, 522, rfl⟩
abbrev main_v408 : Ref sig .tc := ⟨.hbm, 523, rfl⟩
abbrev main_v409 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_c_65 : Ref sig .tc := ⟨.hbm, 528, rfl⟩
abbrev main_v413 : Ref sig .tc := ⟨.hbm, 529, rfl⟩
abbrev main_v414 : Ref sig .tc := ⟨.hbm, 530, rfl⟩
abbrev main_v415 : Ref sig .tc := ⟨.hbm, 531, rfl⟩
abbrev main_call12_v0 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_cst_66 : Ref sig .tc := ⟨.hbm, 546, rfl⟩
abbrev main_v429 : Ref sig .tc := ⟨.hbm, 547, rfl⟩
abbrev main_v430 : Ref sig .tc := ⟨.hbm, 548, rfl⟩
abbrev main_cst_67 : Ref sig .tc := ⟨.hbm, 549, rfl⟩
abbrev main_v431 : Ref sig .tc := ⟨.hbm, 550, rfl⟩
abbrev main_v432 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_cst_68 : Ref sig .tc := ⟨.hbm, 557, rfl⟩
abbrev main_v438 : Ref sig .tc := ⟨.hbm, 558, rfl⟩
abbrev main_v439 : Ref sig .tc := ⟨.hbm, 559, rfl⟩
abbrev main_cst_69 : Ref sig .tc := ⟨.hbm, 560, rfl⟩
abbrev main_v440 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_v446 : Ref sig .tc := ⟨.hbm, 567, rfl⟩
abbrev main_cst_70 : Ref sig .tc := ⟨.hbm, 568, rfl⟩
abbrev main_v447 : Ref sig .tc := ⟨.hbm, 569, rfl⟩
abbrev main_v448 : Ref sig .tc := ⟨.hbm, 570, rfl⟩
abbrev main_v449 : Ref sig .tc := ⟨.hbm, 571, rfl⟩
abbrev main_v450 : Ref sig .tc := ⟨.hbm, 572, rfl⟩
abbrev main_v451 : Ref sig .tc := ⟨.hbm, 573, rfl⟩
abbrev main_c_71 : Ref sig .tc := ⟨.hbm, 574, rfl⟩
abbrev main_v452 : Ref sig .tc := ⟨.hbm, 575, rfl⟩
abbrev main_v453 : Ref sig .tc := ⟨.hbm, 576, rfl⟩
abbrev main_v454 : Ref sig .tc := ⟨.hbm, 577, rfl⟩
abbrev main_call13_v0 : Ref sig .tc := ⟨.hbm, 578, rfl⟩
abbrev main_v455 : Ref sig .tc := ⟨.hbm, 579, rfl⟩
abbrev main_v456 : Ref sig .tc := ⟨.hbm, 580, rfl⟩
abbrev main_v457 : Ref sig .tc := ⟨.hbm, 581, rfl⟩
abbrev main_v458 : Ref sig .tc := ⟨.hbm, 582, rfl⟩
abbrev main_v459 : Ref sig .tc := ⟨.hbm, 583, rfl⟩
abbrev main_v460 : Ref sig .tc := ⟨.hbm, 584, rfl⟩
abbrev main_v461 : Ref sig .tc := ⟨.hbm, 585, rfl⟩
abbrev main_v462 : Ref sig .tc := ⟨.hbm, 586, rfl⟩
abbrev main_v463 : Ref sig .tc := ⟨.hbm, 587, rfl⟩
abbrev main_v464 : Ref sig .tc := ⟨.hbm, 588, rfl⟩
abbrev main_v465 : Ref sig .tc := ⟨.hbm, 589, rfl⟩
abbrev main_v466 : Ref sig .tc := ⟨.hbm, 590, rfl⟩
abbrev main_v467 : Ref sig .tc := ⟨.hbm, 591, rfl⟩
abbrev main_cst_72 : Ref sig .tc := ⟨.hbm, 592, rfl⟩
abbrev main_v468 : Ref sig .tc := ⟨.hbm, 593, rfl⟩
abbrev main_v469 : Ref sig .tc := ⟨.hbm, 594, rfl⟩
abbrev main_cst_73 : Ref sig .tc := ⟨.hbm, 595, rfl⟩
abbrev main_v470 : Ref sig .tc := ⟨.hbm, 596, rfl⟩
abbrev main_v471 : Ref sig .tc := ⟨.hbm, 597, rfl⟩
abbrev main_v472 : Ref sig .tc := ⟨.hbm, 598, rfl⟩
abbrev main_v473 : Ref sig .tc := ⟨.hbm, 599, rfl⟩
abbrev main_v474 : Ref sig .tc := ⟨.hbm, 600, rfl⟩
abbrev main_v475 : Ref sig .tc := ⟨.hbm, 601, rfl⟩
abbrev main_v476 : Ref sig .tc := ⟨.hbm, 602, rfl⟩
abbrev main_cst_74 : Ref sig .tc := ⟨.hbm, 603, rfl⟩
abbrev main_v477 : Ref sig .tc := ⟨.hbm, 604, rfl⟩
abbrev main_v478 : Ref sig .tc := ⟨.hbm, 605, rfl⟩
abbrev main_cst_75 : Ref sig .tc := ⟨.hbm, 606, rfl⟩
abbrev main_v479 : Ref sig .tc := ⟨.hbm, 607, rfl⟩
abbrev main_v480 : Ref sig .tc := ⟨.hbm, 608, rfl⟩
abbrev main_v481 : Ref sig .tc := ⟨.hbm, 609, rfl⟩
abbrev main_v482 : Ref sig .tc := ⟨.hbm, 610, rfl⟩
abbrev main_v483 : Ref sig .tc := ⟨.hbm, 611, rfl⟩
abbrev main_v484 : Ref sig .tc := ⟨.hbm, 612, rfl⟩
abbrev main_v485 : Ref sig .tc := ⟨.hbm, 613, rfl⟩
abbrev main_cst_76 : Ref sig .tc := ⟨.hbm, 614, rfl⟩
abbrev main_v486 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_c_77 : Ref sig .tc := ⟨.hbm, 620, rfl⟩
abbrev main_v491 : Ref sig .tc := ⟨.hbm, 621, rfl⟩
abbrev main_v492 : Ref sig .tc := ⟨.hbm, 622, rfl⟩
abbrev main_v493 : Ref sig .tc := ⟨.hbm, 623, rfl⟩
abbrev main_call14_v0 : Ref sig .tc := ⟨.hbm, 624, rfl⟩
abbrev main_v494 : Ref sig .tc := ⟨.hbm, 625, rfl⟩
abbrev main_v495 : Ref sig .tc := ⟨.hbm, 626, rfl⟩
abbrev main_v496 : Ref sig .tc := ⟨.hbm, 627, rfl⟩
abbrev main_v497 : Ref sig .tc := ⟨.hbm, 628, rfl⟩
abbrev main_v498 : Ref sig .tc := ⟨.hbm, 629, rfl⟩
abbrev main_v499 : Ref sig .tc := ⟨.hbm, 630, rfl⟩
abbrev main_v500 : Ref sig .tc := ⟨.hbm, 631, rfl⟩
abbrev main_v501 : Ref sig .tc := ⟨.hbm, 632, rfl⟩
abbrev main_v502 : Ref sig .tc := ⟨.hbm, 633, rfl⟩
abbrev main_v503 : Ref sig .tc := ⟨.hbm, 634, rfl⟩
abbrev main_v504 : Ref sig .tc := ⟨.hbm, 635, rfl⟩
abbrev main_v505 : Ref sig .tc := ⟨.hbm, 636, rfl⟩
abbrev main_v506 : Ref sig .tc := ⟨.hbm, 637, rfl⟩
abbrev main_cst_78 : Ref sig .tc := ⟨.hbm, 638, rfl⟩
abbrev main_v507 : Ref sig .tc := ⟨.hbm, 639, rfl⟩
abbrev main_v508 : Ref sig .tc := ⟨.hbm, 640, rfl⟩
abbrev main_cst_79 : Ref sig .tc := ⟨.hbm, 641, rfl⟩
abbrev main_v509 : Ref sig .tc := ⟨.hbm, 642, rfl⟩
abbrev main_v510 : Ref sig .tc := ⟨.hbm, 643, rfl⟩
abbrev main_v511 : Ref sig .tc := ⟨.hbm, 644, rfl⟩
abbrev main_v512 : Ref sig .tc := ⟨.hbm, 645, rfl⟩
abbrev main_v513 : Ref sig .tc := ⟨.hbm, 646, rfl⟩
abbrev main_v514 : Ref sig .tc := ⟨.hbm, 647, rfl⟩
abbrev main_v515 : Ref sig .tc := ⟨.hbm, 648, rfl⟩
abbrev main_cst_80 : Ref sig .tc := ⟨.hbm, 649, rfl⟩
abbrev main_v516 : Ref sig .tc := ⟨.hbm, 650, rfl⟩
abbrev main_v517 : Ref sig .tc := ⟨.hbm, 651, rfl⟩
abbrev main_cst_81 : Ref sig .tc := ⟨.hbm, 652, rfl⟩
abbrev main_v518 : Ref sig .tc := ⟨.hbm, 653, rfl⟩
abbrev main_v519 : Ref sig .tc := ⟨.hbm, 654, rfl⟩
abbrev main_v520 : Ref sig .tc := ⟨.hbm, 655, rfl⟩
abbrev main_v521 : Ref sig .tc := ⟨.hbm, 656, rfl⟩
abbrev main_v522 : Ref sig .tc := ⟨.hbm, 657, rfl⟩
abbrev main_v523 : Ref sig .tc := ⟨.hbm, 658, rfl⟩
abbrev main_v524 : Ref sig .tc := ⟨.hbm, 659, rfl⟩
abbrev main_cst_82 : Ref sig .tc := ⟨.hbm, 660, rfl⟩
abbrev main_v525 : Ref sig .tc := ⟨.hbm, 661, rfl⟩
abbrev main_v526 : Ref sig .tc := ⟨.hbm, 662, rfl⟩
abbrev main_v527 : Ref sig .tc := ⟨.hbm, 663, rfl⟩
abbrev main_v528 : Ref sig .tc := ⟨.hbm, 664, rfl⟩
abbrev main_v529 : Ref sig .tc := ⟨.hbm, 665, rfl⟩
abbrev main_c_83 : Ref sig .tc := ⟨.hbm, 666, rfl⟩
abbrev main_v530 : Ref sig .tc := ⟨.hbm, 667, rfl⟩
abbrev main_v531 : Ref sig .tc := ⟨.hbm, 668, rfl⟩
abbrev main_v532 : Ref sig .tc := ⟨.hbm, 669, rfl⟩
abbrev main_call15_v0 : Ref sig .tc := ⟨.hbm, 670, rfl⟩
abbrev main_v533 : Ref sig .tc := ⟨.hbm, 671, rfl⟩
abbrev main_v534 : Ref sig .tc := ⟨.hbm, 672, rfl⟩
abbrev main_v535 : Ref sig .tc := ⟨.hbm, 673, rfl⟩
abbrev main_v536 : Ref sig .tc := ⟨.hbm, 674, rfl⟩
abbrev main_v537 : Ref sig .tc := ⟨.hbm, 675, rfl⟩
abbrev main_v538 : Ref sig .tc := ⟨.hbm, 676, rfl⟩
abbrev main_v539 : Ref sig .tc := ⟨.hbm, 677, rfl⟩
abbrev main_v540 : Ref sig .tc := ⟨.hbm, 678, rfl⟩
abbrev main_v541 : Ref sig .tc := ⟨.hbm, 679, rfl⟩
abbrev main_v542 : Ref sig .tc := ⟨.hbm, 680, rfl⟩
abbrev main_v543 : Ref sig .tc := ⟨.hbm, 681, rfl⟩
abbrev main_v544 : Ref sig .tc := ⟨.hbm, 682, rfl⟩
abbrev main_v545 : Ref sig .tc := ⟨.hbm, 683, rfl⟩
abbrev main_cst_84 : Ref sig .tc := ⟨.hbm, 684, rfl⟩
abbrev main_v546 : Ref sig .tc := ⟨.hbm, 685, rfl⟩
abbrev main_v547 : Ref sig .tc := ⟨.hbm, 686, rfl⟩
abbrev main_cst_85 : Ref sig .tc := ⟨.hbm, 687, rfl⟩
abbrev main_v548 : Ref sig .tc := ⟨.hbm, 688, rfl⟩
abbrev main_v549 : Ref sig .tc := ⟨.hbm, 689, rfl⟩
abbrev main_v550 : Ref sig .tc := ⟨.hbm, 690, rfl⟩
abbrev main_v551 : Ref sig .tc := ⟨.hbm, 691, rfl⟩
abbrev main_v552 : Ref sig .tc := ⟨.hbm, 692, rfl⟩
abbrev main_v553 : Ref sig .tc := ⟨.hbm, 693, rfl⟩
abbrev main_v554 : Ref sig .tc := ⟨.hbm, 694, rfl⟩
abbrev main_cst_86 : Ref sig .tc := ⟨.hbm, 695, rfl⟩
abbrev main_v555 : Ref sig .tc := ⟨.hbm, 696, rfl⟩
abbrev main_v556 : Ref sig .tc := ⟨.hbm, 697, rfl⟩
abbrev main_cst_87 : Ref sig .tc := ⟨.hbm, 698, rfl⟩
abbrev main_v557 : Ref sig .tc := ⟨.hbm, 699, rfl⟩
abbrev main_v558 : Ref sig .tc := ⟨.hbm, 700, rfl⟩
abbrev main_v559 : Ref sig .tc := ⟨.hbm, 701, rfl⟩
abbrev main_v560 : Ref sig .tc := ⟨.hbm, 702, rfl⟩
abbrev main_v561 : Ref sig .tc := ⟨.hbm, 703, rfl⟩
abbrev main_v562 : Ref sig .tc := ⟨.hbm, 704, rfl⟩
abbrev main_v563 : Ref sig .tc := ⟨.hbm, 705, rfl⟩
abbrev main_cst_88 : Ref sig .tc := ⟨.hbm, 706, rfl⟩
abbrev main_v564 : Ref sig .tc := ⟨.hbm, 707, rfl⟩
abbrev main_v565 : Ref sig .tc := ⟨.hbm, 708, rfl⟩
abbrev main_v566 : Ref sig .tc := ⟨.hbm, 709, rfl⟩
abbrev main_v567 : Ref sig .tc := ⟨.hbm, 710, rfl⟩
abbrev main_v568 : Ref sig .tc := ⟨.hbm, 711, rfl⟩
abbrev main_c_89 : Ref sig .tc := ⟨.hbm, 712, rfl⟩
abbrev main_v569 : Ref sig .tc := ⟨.hbm, 713, rfl⟩
abbrev main_v570 : Ref sig .tc := ⟨.hbm, 714, rfl⟩
abbrev main_v571 : Ref sig .tc := ⟨.hbm, 715, rfl⟩
abbrev main_call16_v0 : Ref sig .tc := ⟨.hbm, 716, rfl⟩
abbrev main_v572 : Ref sig .tc := ⟨.hbm, 717, rfl⟩
abbrev main_v573 : Ref sig .tc := ⟨.hbm, 718, rfl⟩
abbrev main_v574 : Ref sig .tc := ⟨.hbm, 719, rfl⟩
abbrev main_v575 : Ref sig .tc := ⟨.hbm, 720, rfl⟩
abbrev main_v576 : Ref sig .tc := ⟨.hbm, 721, rfl⟩
abbrev main_v577 : Ref sig .tc := ⟨.hbm, 722, rfl⟩
abbrev main_v578 : Ref sig .tc := ⟨.hbm, 723, rfl⟩
abbrev main_v579 : Ref sig .tc := ⟨.hbm, 724, rfl⟩
abbrev main_v580 : Ref sig .tc := ⟨.hbm, 725, rfl⟩
abbrev main_v581 : Ref sig .tc := ⟨.hbm, 726, rfl⟩
abbrev main_v582 : Ref sig .tc := ⟨.hbm, 727, rfl⟩
abbrev main_v583 : Ref sig .tc := ⟨.hbm, 728, rfl⟩
abbrev main_v584 : Ref sig .tc := ⟨.hbm, 729, rfl⟩
abbrev main_cst_90 : Ref sig .tc := ⟨.hbm, 730, rfl⟩
abbrev main_v585 : Ref sig .tc := ⟨.hbm, 731, rfl⟩
abbrev main_v586 : Ref sig .tc := ⟨.hbm, 732, rfl⟩
abbrev main_cst_91 : Ref sig .tc := ⟨.hbm, 733, rfl⟩
abbrev main_v587 : Ref sig .tc := ⟨.hbm, 734, rfl⟩
abbrev main_v588 : Ref sig .tc := ⟨.hbm, 735, rfl⟩
abbrev main_v589 : Ref sig .tc := ⟨.hbm, 736, rfl⟩
abbrev main_v590 : Ref sig .tc := ⟨.hbm, 737, rfl⟩
abbrev main_v591 : Ref sig .tc := ⟨.hbm, 738, rfl⟩
abbrev main_v592 : Ref sig .tc := ⟨.hbm, 739, rfl⟩
abbrev main_v593 : Ref sig .tc := ⟨.hbm, 740, rfl⟩
abbrev main_cst_92 : Ref sig .tc := ⟨.hbm, 741, rfl⟩
abbrev main_v594 : Ref sig .tc := ⟨.hbm, 742, rfl⟩
abbrev main_v595 : Ref sig .tc := ⟨.hbm, 743, rfl⟩
abbrev main_cst_93 : Ref sig .tc := ⟨.hbm, 744, rfl⟩
abbrev main_v596 : Ref sig .tc := ⟨.hbm, 745, rfl⟩
abbrev main_v597 : Ref sig .tc := ⟨.hbm, 746, rfl⟩
abbrev main_v598 : Ref sig .tc := ⟨.hbm, 747, rfl⟩
abbrev main_v599 : Ref sig .tc := ⟨.hbm, 748, rfl⟩
abbrev main_v600 : Ref sig .tc := ⟨.hbm, 749, rfl⟩
abbrev main_v601 : Ref sig .tc := ⟨.hbm, 750, rfl⟩
abbrev main_v602 : Ref sig .tc := ⟨.hbm, 751, rfl⟩
abbrev main_cst_94 : Ref sig .tc := ⟨.hbm, 752, rfl⟩
abbrev main_v603 : Ref sig .tc := ⟨.hbm, 753, rfl⟩
abbrev main_v604 : Ref sig .tc := ⟨.hbm, 754, rfl⟩
abbrev main_v605 : Ref sig .tc := ⟨.hbm, 755, rfl⟩
abbrev main_v606 : Ref sig .tc := ⟨.hbm, 756, rfl⟩
abbrev main_v607 : Ref sig .tc := ⟨.hbm, 757, rfl⟩
abbrev main_c_95 : Ref sig .tc := ⟨.hbm, 758, rfl⟩
abbrev main_v608 : Ref sig .tc := ⟨.hbm, 759, rfl⟩
abbrev main_v609 : Ref sig .tc := ⟨.hbm, 760, rfl⟩
abbrev main_v610 : Ref sig .tc := ⟨.hbm, 761, rfl⟩
abbrev main_call17_v0 : Ref sig .tc := ⟨.hbm, 762, rfl⟩
abbrev main_v611 : Ref sig .tc := ⟨.hbm, 763, rfl⟩
abbrev main_v612 : Ref sig .tc := ⟨.hbm, 764, rfl⟩
abbrev main_v613 : Ref sig .tc := ⟨.hbm, 765, rfl⟩
abbrev main_v614 : Ref sig .tc := ⟨.hbm, 766, rfl⟩
abbrev main_v615 : Ref sig .tc := ⟨.hbm, 767, rfl⟩
abbrev main_v616 : Ref sig .tc := ⟨.hbm, 768, rfl⟩
abbrev main_v617 : Ref sig .tc := ⟨.hbm, 769, rfl⟩
abbrev main_v618 : Ref sig .tc := ⟨.hbm, 770, rfl⟩
abbrev main_v619 : Ref sig .tc := ⟨.hbm, 771, rfl⟩
abbrev main_v620 : Ref sig .tc := ⟨.hbm, 772, rfl⟩
abbrev main_v621 : Ref sig .tc := ⟨.hbm, 773, rfl⟩
abbrev main_v622 : Ref sig .tc := ⟨.hbm, 774, rfl⟩
abbrev main_v623 : Ref sig .tc := ⟨.hbm, 775, rfl⟩
abbrev main_cst_96 : Ref sig .tc := ⟨.hbm, 776, rfl⟩
abbrev main_v624 : Ref sig .tc := ⟨.hbm, 777, rfl⟩
abbrev main_v625 : Ref sig .tc := ⟨.hbm, 778, rfl⟩
abbrev main_cst_97 : Ref sig .tc := ⟨.hbm, 779, rfl⟩
abbrev main_v626 : Ref sig .tc := ⟨.hbm, 780, rfl⟩
abbrev main_v627 : Ref sig .tc := ⟨.hbm, 781, rfl⟩
abbrev main_v628 : Ref sig .tc := ⟨.hbm, 782, rfl⟩
abbrev main_v629 : Ref sig .tc := ⟨.hbm, 783, rfl⟩
abbrev main_v630 : Ref sig .tc := ⟨.hbm, 784, rfl⟩
abbrev main_v631 : Ref sig .tc := ⟨.hbm, 785, rfl⟩
abbrev main_v632 : Ref sig .tc := ⟨.hbm, 786, rfl⟩
abbrev main_cst_98 : Ref sig .tc := ⟨.hbm, 787, rfl⟩
abbrev main_v633 : Ref sig .tc := ⟨.hbm, 788, rfl⟩
abbrev main_v634 : Ref sig .tc := ⟨.hbm, 789, rfl⟩
abbrev main_cst_99 : Ref sig .tc := ⟨.hbm, 790, rfl⟩
abbrev main_v635 : Ref sig .tc := ⟨.hbm, 791, rfl⟩
abbrev main_v636 : Ref sig .tc := ⟨.hbm, 792, rfl⟩
abbrev main_v637 : Ref sig .tc := ⟨.hbm, 793, rfl⟩
abbrev main_v638 : Ref sig .tc := ⟨.hbm, 794, rfl⟩
abbrev main_v639 : Ref sig .tc := ⟨.hbm, 795, rfl⟩
abbrev main_v640 : Ref sig .tc := ⟨.hbm, 796, rfl⟩
abbrev main_v641 : Ref sig .tc := ⟨.hbm, 797, rfl⟩
abbrev main_cst_100 : Ref sig .tc := ⟨.hbm, 798, rfl⟩
abbrev main_v642 : Ref sig .tc := ⟨.hbm, 799, rfl⟩
abbrev main_v643 : Ref sig .tc := ⟨.hbm, 800, rfl⟩
abbrev main_v644 : Ref sig .tc := ⟨.hbm, 801, rfl⟩
abbrev main_v645 : Ref sig .tc := ⟨.hbm, 802, rfl⟩
abbrev main_v646 : Ref sig .tc := ⟨.hbm, 803, rfl⟩
abbrev main_c_101 : Ref sig .tc := ⟨.hbm, 804, rfl⟩
abbrev main_v647 : Ref sig .tc := ⟨.hbm, 805, rfl⟩
abbrev main_v648 : Ref sig .tc := ⟨.hbm, 806, rfl⟩
abbrev main_v649 : Ref sig .tc := ⟨.hbm, 807, rfl⟩
abbrev main_call18_v0 : Ref sig .tc := ⟨.hbm, 808, rfl⟩
abbrev main_v650 : Ref sig .tc := ⟨.hbm, 809, rfl⟩
abbrev main_v651 : Ref sig .tc := ⟨.hbm, 810, rfl⟩

abbrev nD : Nat := 1
abbrev τ : Topo := Topo.v7x

variable {F : FTy → Type} [FloatOps F]
-- ==== Proof.KernelIdeal.Step.lean ====
/- The mathematics of one grid point of the kernel, written once for every tile width: the step of
   one direction of the recurrence, the mask of the rows still running, and the whole body after its
   transfers as a loop over time steps of rows of tiles. -/
module

public import proofs.«01_k».proof.Proof.Gen.KernelIdeal

@[expose] public section

noncomputable section

namespace Cert.KernelIdeal.Bi

open Idealize.ShloMosaic Idealize.SL.Sem
open Gen

variable {F : FTy → Type} [FloatOps F]

/-- A matrix of `m` rows and `w` columns. -/
abbrev Mat (m w : Nat) : Shape := ⟨2, ![m, w]⟩
/-- One time step of `w` rows of a slot. -/
abbrev Slab (w : Nat) : Shape := ⟨4, ![1, 1, w, 128]⟩

theorem slab_casts (w : Nat) : (Slab w).ShapeCasts (Mat w 128) := by
  simp [Shape.ShapeCasts, Shape.numel, Fin.prod_univ_succ]
theorem mat_slices {m k w : Nat} (o : Nat) (h : o + k ≤ m) : (Mat m w).Slices ![o, 0] (Mat k w) :=
  ⟨rfl, fun a => by fin_cases a <;> simp [h]⟩
theorem col_slices {m k w : Nat} (o : Nat) (h : o + k ≤ w) : (Mat m w).Slices ![0, o] (Mat m k) :=
  ⟨rfl, fun a => by fin_cases a <;> simp [h]⟩
theorem col_broadcasts (m w : Nat) : (Mat m 1).Broadcasts (Mat m w) :=
  ⟨le_rfl, fun a => by fin_cases a <;> simp [Fin.forall_fin_succ]⟩
theorem row_broadcasts (m w : Nat) : (Mat 1 w).Broadcasts (Mat m w) :=
  ⟨le_rfl, fun a => by fin_cases a <;> simp [Fin.forall_fin_succ]⟩
theorem mat_casts (m w : Nat) : (Mat m w).ShapeCasts (Mat m w) := rfl
theorem mat_transposes (m w : Nat) : (Mat m w).Transposes [1, 0] (Mat w m) :=
  ⟨by simpa [List.finRange] using List.Perm.swap 0 1 [], rfl, fun b => by fin_cases b <;> rfl⟩

/-- The weights of the kernel, both directions stacked. -/
structure Wts (F : FTy → Type) where
  ih : FVec F S192x128 .bf16
  hh : FVec F S192x32 .bf16
  b : FVec F S192x1 .f32
  bn : FVec F S64x1 .f32

/-- A direction is the row block of the weights it reads: 0 forward, 1 backward. -/
abbrev Dir := Fin 2

theorem dir96 (d : Dir) : 96 * d.val + 96 ≤ 192 := by omega
theorem dir32 (d : Dir) : 32 * d.val + 32 ≤ 64 := by omega

/-- One step of the recurrence over a tile of `w` rows: the next hidden state from the input `x`,
    the hidden state `h` and the mask `m` of the rows still running. -/
def step (w : Nat) (W : Wts F) (d : Dir) (x : Vec F (Slab w) .f32) (h : FVec F (Mat 32 w) .f32)
    (m : IVec (Mat 1 w) 1) : FVec F (Mat 32 w) .f32 :=
  have wi : FVec F (Mat 96 128) .bf16 := extractStridedSlice (Mat 96 128) ![96 * d.val, 0] W.ih (mat_slices _ (dir96 d))
  have xb : FVec F (Mat w 128) .bf16 := truncf .bf16 (shapeCast (Mat w 128) x (slab_casts w)) bitsLt_bf16_f32
  have gx : FVec F (Mat 96 w) .f32 := matmul (DotDims.transposedRhs 96 128 w) none wi xb (constant (Mat 96 w) .f32 0x00000000#32)
  have wh : FVec F (Mat 96 32) .bf16 := extractStridedSlice (Mat 96 32) ![96 * d.val, 0] W.hh (mat_slices _ (dir96 d))
  have b : FVec F (Mat 96 1) .f32 := extractStridedSlice (Mat 96 1) ![96 * d.val, 0] W.b (mat_slices _ (dir96 d))
  have bn : FVec F (Mat 32 1) .f32 := extractStridedSlice (Mat 32 1) ![32 * d.val, 0] W.bn (mat_slices _ (dir32 d))
  have hb : FVec F (Mat 32 w) .bf16 := truncf .bf16 h bitsLt_bf16_f32
  have gh : FVec F (Mat 96 w) .f32 := matmul (DotDims.plain 96 32 w) none wh hb (constant (Mat 96 w) .f32 0x00000000#32)
  have g : FVec F (Mat 96 w) .f32 := addf gx (broadcastTo (Mat 96 w) b (col_broadcasts 96 w))
  have rz : FVec F (Mat 64 w) .f32 := tanh (addf (extractStridedSlice (Mat 64 w) ![0, 0] g (mat_slices 0 (by decide))) (extractStridedSlice (Mat 64 w) ![0, 0] gh (mat_slices 0 (by decide))))
  have half : FVec F (Mat 32 w) .f32 := broadcast (Mat 32 w) (Scalar.ofBits .f32 0x3F000000#32 : F .f32)
  have hn : FVec F (Mat 32 w) .f32 := addf (mulf half (extractStridedSlice (Mat 32 w) ![64, 0] gh (mat_slices 64 (by decide)))) (broadcastTo (Mat 32 w) bn (col_broadcasts 32 w))
  have s : FVec F (Mat 32 w) .f32 := addf (extractStridedSlice (Mat 32 w) ![64, 0] g (mat_slices 64 (by decide))) hn
  have n : FVec F (Mat 32 w) .f32 := tanh (addf s (mulf (extractStridedSlice (Mat 32 w) ![0, 0] rz (mat_slices 0 (by decide))) hn))
  have dl : FVec F (Mat 32 w) .f32 := subf h n
  have e : FVec F (Mat 32 w) .f32 := addf (mulf half dl) n
  have o : FVec F (Mat 32 w) .f32 := addf e (mulf (mulf half (extractStridedSlice (Mat 32 w) ![32, 0] rz (mat_slices 32 (by decide)))) dl)
  select (broadcastTo (Mat 32 w) (shapeCast (Mat 1 w) m (mat_casts 1 w)) (row_broadcasts 32 w)) o h

/-- Whether each entry of the ids block is no pad. -/
def live (ids : Vec F S1x8x2000 .i32) : IVec S8x2000 1 :=
  cmpi .ne (shapeCast S8x2000 ids shapeCasts_S1x8x2000_S8x2000) (broadcast S8x2000 1000#32)

/-- The row `t` of the liveness table. -/
def liveRow (ids : Vec F S1x8x2000 .i32) (t : Nat) (h : t < 8) : IVec S1x2000 1 :=
  extractStridedSlice S1x2000 ![t, 0] (live ids) (mat_slices t (by omega))

/-- The rows with no pad at any of the times `0 … t`. -/
def running (ids : Vec F S1x8x2000 .i32) : (t : Nat) → t < 8 → IVec S1x2000 1
  | 0, h => liveRow ids 0 h
  | t + 1, h => andi (running ids t (by omega)) (liveRow ids (t + 1) h)

/-- The mask of a tile of `w` rows from row `j`. -/
def runningTile (ids : Vec F S1x8x2000 .i32) (t : Nat) (ht : t < 8) (j w : Nat) (hj : j + w ≤ 2000) : IVec (Mat 1 w) 1 :=
  extractStridedSlice (Mat 1 w) ![0, j] (running ids t ht) (col_slices j hj)

/-- The two hidden states of a tile, forward and backward. -/
structure Pair (F : FTy → Type) (w : Nat) where
  f : FVec F (Mat 32 w) .f32
  b : FVec F (Mat 32 w) .f32

/-- Both hidden states before the first step. -/
def Pair.zero (w : Nat) : Pair F w := ⟨broadcast (Mat 32 w) (Scalar.ofBits .f32 0x00000000#32), broadcast (Mat 32 w) (Scalar.ofBits .f32 0x00000000#32)⟩

/-- The number of the slot the grid point reads, as the kernel computes it. -/
def slotW (i : grid0.Coords) : BitVec 32 :=
  let arg0 : BitVec 32 := BitVec.ofNat 32 (i 0).val
  let v73 : BitVec 1 := Scalar.cmpi .eq 2#32 0#32
  let v74 : BitVec 32 := Scalar.select v73 1#32 2#32
  let v75 : BitVec 32 := Scalar.remsi arg0 v74
  Scalar.select (Scalar.andi (Scalar.xori (Scalar.cmpi .slt v75 0#32) (Scalar.cmpi .slt v74 0#32)) (Scalar.cmpi .ne v75 0#32)) (Scalar.addi v75 v74) v75

theorem slotW_eq : ∀ i : grid0.Coords, (slotW i).toNat = (i 0).val % 2 := by decide +kernel

/-- Where the tile at row `j` of time `t` begins in the slots. -/
def tileOff (i : grid0.Coords) (t j : Nat) : Fin 4 → Nat := ![(slotW i).toNat, t, j, 0]

theorem tileOff_inb (i : grid0.Coords) (t j w : Nat) (ht : t < 8) (hj : j + w ≤ 2000) :
    ∀ a, tileOff i t j a + (Slab w).size a ≤ S2x8x2000x128.size a := by
  have := slotW_eq i
  have h2 : (i 0).val % 2 < 2 := Nat.mod_lt _ (by decide)
  intro a
  fin_cases a <;> simp [tileOff] <;> omega

theorem slab_pos {w : Nat} (hw : 0 < w) : 0 < (Slab w).numel := by
  simp [Shape.numel, Fin.prod_univ_succ, hw]
theorem mat_pos {m w : Nat} (hm : 0 < m) (hw : 0 < w) : 0 < (Mat m w).numel := by
  simp [Shape.numel, Fin.prod_univ_succ, hm, hw]

/-- The effects of the core's programs. -/
abbrev P (F : FTy → Type) [FloatOps F] (α : Type) := Prog (TpuEff nD τ sig (Elt F) Λ₀ .tc) α

section
variable (i : grid0.Coords) (W : Wts F) (ids : Vec F S1x8x2000 .i32) (arg8 : Memref sig .tc .vmem S2x8x2000x128 .f32)

/-- The load of one tile of inputs. -/
def ld (w : Nat) (hw : 0 < w) (t j : Nat) (ht : t < 8) (hj : j + w ≤ 2000) : P F (Vec F (Slab w) .f32) :=
  Prog.lift (.load arg8 (Rect.unit (s := S2x8x2000x128) (tileOff i t j) (Slab w).size (tileOff_inb i t j w ht hj)).toLoadRect (View.loadsAt_vmem (slab_pos hw)))

/-- One time step of one tile: the forward direction at time `t`, the backward one at time `7 - t`. -/
def tileStep (w : Nat) (hw : 0 < w) (t j : Nat) (ht : t < 8) (hj : j + w ≤ 2000) (p : Pair F w) : P F (Pair F w) := do
  let xf ← ld i arg8 w hw t j ht hj
  let xb ← ld i arg8 w hw (7 - t) j (by omega) hj
  pure ⟨step w W 0 xf p.f (runningTile ids t ht j w hj), step w W 1 xb p.b (runningTile ids (7 - t) (by omega) j w hj)⟩

/-- The states of the four tiles of a group, the last of its own width. -/
structure Quad (F : FTy → Type) (w : Nat) where
  p0 : Pair F 256
  p1 : Pair F 256
  p2 : Pair F 256
  p3 : Pair F w

/-- One time step of a group of tiles from row `j`. -/
def row (w : Nat) (hw : 0 < w) (t j : Nat) (ht : t < 8) (hj : j + 768 + w ≤ 2000) (q : Quad F w) : P F (Quad F w) := do
  let p0 ← tileStep i W ids arg8 256 (by decide) t j ht (by omega) q.p0
  let p1 ← tileStep i W ids arg8 256 (by decide) t (j + 256) ht (by omega) q.p1
  let p2 ← tileStep i W ids arg8 256 (by decide) t (j + 512) ht (by omega) q.p2
  let p3 ← tileStep i W ids arg8 w hw t (j + 768) ht hj q.p3
  pure ⟨p0, p1, p2, p3⟩

/-- The first `n` time steps of a group. -/
def rows (w : Nat) (hw : 0 < w) (j : Nat) (hj : j + 768 + w ≤ 2000) : (n : Nat) → n ≤ 8 → P F (Quad F w)
  | 0, _ => pure ⟨.zero 256, .zero 256, .zero 256, .zero w⟩
  | n + 1, h => do
    let q ← rows w hw j hj n (by omega)
    row i W ids arg8 w hw n j (by omega) hj q

variable (arg7 : Memref sig .tc .vmem S2000x32 .f32)

theorem out_inb (j w : Nat) (hj : j + w ≤ 2000) : ∀ a, (![j, 0] : Fin 2 → Nat) a + (Mat w 32).size a ≤ S2000x32.size a := by
  intro a
  fin_cases a <;> simp [hj]

/-- What a tile writes: the sum of its two hidden states, transposed. -/
def tileOut {w : Nat} (p : Pair F w) : FVec F (Mat w 32) .f32 :=
  transpose (Mat w 32) [1, 0] (addf p.f p.b) (mat_transposes 32 w)

/-- The store of one tile of the result. -/
def st (w : Nat) (hw : 0 < w) (j : Nat) (hj : j + w ≤ 2000) (p : Pair F w) : P F PUnit := do
  let _ ← Prog.lift (.load arg7 (Rect.unit (s := S2000x32) ![j, 0] (Mat w 32).size (out_inb j w hj)).toLoadRect (View.loadsAt_vmem (mat_pos hw (by decide))))
  Prog.lift (.store arg7 (Rect.unit (s := S2000x32) ![j, 0] (Mat w 32).size (out_inb j w hj)) (tileOut p) Finset.univ (View.stores_vmem_bits_univ (mat_pos hw (by decide)) rfl) (.inl rfl))

/-- A group of tiles from row `j`: its eight time steps, then its four stores. -/
def group (w : Nat) (hw : 0 < w) (j : Nat) (hj : j + 768 + w ≤ 2000) : P F PUnit := do
  let q ← rows i W ids arg8 w hw j hj 8 le_rfl
  st arg7 256 (by decide) j (by omega) q.p0
  st arg7 256 (by decide) (j + 256) (by omega) q.p1
  st arg7 256 (by decide) (j + 512) (by omega) q.p2
  st arg7 w hw (j + 768) hj q.p3

end

/-- The body after its transfers. -/
def compute (i : grid0.Coords) (arg2 : Memref sig .tc .vmem S1x8x2000 .i32) (arg3 : Memref sig .tc .vmem S192x128 .bf16)
    (arg4 : Memref sig .tc .vmem S192x32 .bf16) (arg5 : Memref sig .tc .vmem S192x1 .f32) (arg6 : Memref sig .tc .vmem S64x1 .f32)
    (arg7 : Memref sig .tc .vmem S2000x32 .f32) (arg8 : Memref sig .tc .vmem S2x8x2000x128 .f32) : P F PUnit := do
  let v83 : Vec F S192x128 .bf16 ← Prog.lift (.load arg3 (Rect.unit (s := S192x128) ![0, 0] S192x128.size inb_S192x128_S192x128_0_0).toLoadRect (View.loadsAt_vmem h_S192x128))
  let v85 : Vec F S192x32 .bf16 ← Prog.lift (.load arg4 (Rect.unit (s := S192x32) ![0, 0] S192x32.size inb_S192x32_S192x32_0_0).toLoadRect (View.loadsAt_vmem h_S192x32))
  let v87 : Vec F S192x1 .f32 ← Prog.lift (.load arg5 (Rect.unit (s := S192x1) ![0, 0] S192x1.size inb_S192x1_S192x1_0_0).toLoadRect (View.loadsAt_vmem h_S192x1))
  let v89 : Vec F S64x1 .f32 ← Prog.lift (.load arg6 (Rect.unit (s := S64x1) ![0, 0] S64x1.size inb_S64x1_S64x1_0_0).toLoadRect (View.loadsAt_vmem h_S64x1))
  let ids : Vec F S1x8x2000 .i32 ← Prog.lift (.load arg2 (Rect.unit (s := S1x8x2000) ![0, 0, 0] S1x8x2000.size inb_S1x8x2000_S1x8x2000_0_0_0).toLoadRect (View.loadsAt_vmem h_S1x8x2000))
  let W : Wts F := ⟨shapeCast S192x128 v83 shapeCasts_S192x128_S192x128, shapeCast S192x32 v85 shapeCasts_S192x32_S192x32, shapeCast S192x1 v87 shapeCasts_S192x1_S192x1, shapeCast S64x1 v89 shapeCasts_S64x1_S64x1⟩
  group i W ids arg8 arg7 256 (by decide) 0 (by decide)
  group i W ids arg8 arg7 208 (by decide) 1024 (by decide)

end Cert.KernelIdeal.Bi
-- ==== Proof.KernelIdeal.Shape.lean ====
/- The printed kernel function is its transfers followed by the loops of `Step.lean`. -/
module

public import proofs.«01_k».proof.Proof.KernelIdeal.Step
public import Idealize.ShloMosaic.Lib.Pipeline.Regions

@[expose] public section

noncomputable section

namespace Cert.KernelIdeal.Bi

open Idealize.ShloMosaic Idealize.SL.Sem
open Gen

variable {F : FTy → Type} [FloatOps F]

/-- The waits of a grid point after the first: the other seven time steps of the block it reads. -/
def waits (i : grid0.Coords) (arg1 : Memref sig .tc .hbm S100000x8x128 .f32) (harg1 : arg1.IsWhole) (arg2 : Memref sig .tc .vmem S1x8x2000 .i32) (harg2 : arg2.IsWhole) (arg3 : Memref sig .tc .vmem S192x128 .bf16) (harg3 : arg3.IsWhole) (arg4 : Memref sig .tc .vmem S192x32 .bf16) (harg4 : arg4.IsWhole) (arg5 : Memref sig .tc .vmem S192x1 .f32) (harg5 : arg5.IsWhole) (arg6 : Memref sig .tc .vmem S64x1 .f32) (harg6 : arg6.IsWhole) (arg7 : Memref sig .tc .vmem S2000x32 .f32) (harg7 : arg7.IsWhole) (arg8 : Memref sig .tc .vmem S2x8x2000x128 .f32) (harg8 : arg8.IsWhole) (arg9 : DmaSems sig S2x8) : P F PUnit := do
  k0_part6 i arg1 harg1 arg2 harg2 arg3 harg3 arg4 harg4 arg5 harg5 arg6 harg6 arg7 harg7 arg8 harg8 arg9
  let v57 : Memref sig .tc .vmem S1x1x2000x128 .f32 := arg8.slice (Rect.unit (s := S2x8x2000x128) (k0_off49 i) S1x1x2000x128.size (k0_off49_inb i)) (fun _ => rfl)
  let v58 : Memref sig .tc .vmem S2000x128 .f32 := v57.squeeze S2000x128 squeezes_S1x1x2000x128_S2000x128
  let v59 : Memref sig .tc .hbm S2000x1x128 .f32 := arg1.slice (Rect.unit (s := S100000x8x128) (k0_off50 i) S2000x1x128.size (k0_off50_inb i)) (fun _ => rfl)
  let v60 : Memref sig .tc .hbm S2000x128 .f32 := v59.squeeze S2000x128 squeezes_S2000x1x128_S2000x128
  let v55 : DmaSems sig S1x1 := arg9.slice (Rect.unit (s := S2x8) (k0_off48 i) S1x1.size (k0_off48_inb i))
  let v56 : DmaSems sig S_ := v55.squeeze S_ squeezes_S1x1_S_
  Prog.lift (.waitDma2 v56.sem v60 v58 ((View.wordExact_bits rfl).reshape _ _) ((View.wordExact_bits rfl).reshape _ _))
  let v61 : DmaSems sig S1x1 := arg9.slice (Rect.unit (s := S2x8) (k0_off51 i) S1x1.size (k0_off51_inb i))
  let v62 : DmaSems sig S_ := v61.squeeze S_ squeezes_S1x1_S_
  let v63 : Memref sig .tc .vmem S1x1x2000x128 .f32 := arg8.slice (Rect.unit (s := S2x8x2000x128) (k0_off52 i) S1x1x2000x128.size (k0_off52_inb i)) (fun _ => rfl)
  let v64 : Memref sig .tc .vmem S2000x128 .f32 := v63.squeeze S2000x128 squeezes_S1x1x2000x128_S2000x128
  let v65 : Memref sig .tc .hbm S2000x1x128 .f32 := arg1.slice (Rect.unit (s := S100000x8x128) (k0_off53 i) S2000x1x128.size (k0_off53_inb i)) (fun _ => rfl)
  let v66 : Memref sig .tc .hbm S2000x128 .f32 := v65.squeeze S2000x128 squeezes_S2000x1x128_S2000x128
  Prog.lift (.waitDma2 v62.sem v66 v64 ((View.wordExact_bits rfl).reshape _ _) ((View.wordExact_bits rfl).reshape _ _))
  let v67 : DmaSems sig S1x1 := arg9.slice (Rect.unit (s := S2x8) (k0_off54 i) S1x1.size (k0_off54_inb i))
  let v68 : DmaSems sig S_ := v67.squeeze S_ squeezes_S1x1_S_
  let v69 : Memref sig .tc .vmem S1x1x2000x128 .f32 := arg8.slice (Rect.unit (s := S2x8x2000x128) (k0_off55 i) S1x1x2000x128.size (k0_off55_inb i)) (fun _ => rfl)
  let v70 : Memref sig .tc .vmem S2000x128 .f32 := v69.squeeze S2000x128 squeezes_S1x1x2000x128_S2000x128
  let v71 : Memref sig .tc .hbm S2000x1x128 .f32 := arg1.slice (Rect.unit (s := S100000x8x128) (k0_off56 i) S2000x1x128.size (k0_off56_inb i)) (fun _ => rfl)
  let v72 : Memref sig .tc .hbm S2000x128 .f32 := v71.squeeze S2000x128 squeezes_S2000x1x128_S2000x128
  Prog.lift (.waitDma2 v68.sem v72 v70 ((View.wordExact_bits rfl).reshape _ _) ((View.wordExact_bits rfl).reshape _ _))

/-- The printed function is the starts and the first wait, then the other waits, then its loops. -/
theorem body_eq (i : grid0.Coords) (arg1 : Memref sig .tc .hbm S100000x8x128 .f32) (harg1 : arg1.IsWhole) (arg2 : Memref sig .tc .vmem S1x8x2000 .i32) (harg2 : arg2.IsWhole) (arg3 : Memref sig .tc .vmem S192x128 .bf16) (harg3 : arg3.IsWhole) (arg4 : Memref sig .tc .vmem S192x32 .bf16) (harg4 : arg4.IsWhole) (arg5 : Memref sig .tc .vmem S192x1 .f32) (harg5 : arg5.IsWhole) (arg6 : Memref sig .tc .vmem S64x1 .f32) (harg6 : arg6.IsWhole) (arg7 : Memref sig .tc .vmem S2000x32 .f32) (harg7 : arg7.IsWhole) (arg8 : Memref sig .tc .vmem S2x8x2000x128 .f32) (harg8 : arg8.IsWhole) (arg9 : DmaSems sig S2x8) :
    cc0__bigru_kernel (F := F) i arg1 harg1 arg2 harg2 arg3 harg3 arg4 harg4 arg5 harg5 arg6 harg6 arg7 harg7 arg8 harg8 arg9 = (k0_part5 i arg1 harg1 arg2 harg2 arg3 harg3 arg4 harg4 arg5 harg5 arg6 harg6 arg7 harg7 arg8 harg8 arg9 >>= fun _ => do
      waits i arg1 harg1 arg2 harg2 arg3 harg3 arg4 harg4 arg5 harg5 arg6 harg6 arg7 harg7 arg8 harg8 arg9
      compute i arg2 arg3 arg4 arg5 arg6 arg7 arg8) :=
  (bind_assoc (m := P F) _ _ _).trans (congrArg (k0_part5 i arg1 harg1 arg2 harg2 arg3 harg3 arg4 harg4 arg5 harg5 arg6 harg6 arg7 harg7 arg8 harg8 arg9 >>= ·) (funext fun _ => by chain_rfl))

end Cert.KernelIdeal.Bi
-- ==== Proof.KernelIdeal.Copies.lean ====
/- The transfers of the kernel as families over the eight time steps: the starts of the first block, the starts of
   the next block, the waits; and the printed body as those three families followed by its loops. -/
module

public import proofs.«01_k».proof.Proof.KernelIdeal.Shape

@[expose] public section

set_option maxRecDepth 16384

noncomputable section

namespace Cert.KernelIdeal.Bi

open Idealize.ShloMosaic Idealize.SL.Sem
open Gen

variable {F : FTy → Type} [FloatOps F]

section
variable (arg1 : Memref sig .tc .hbm S100000x8x128 .f32) (arg8 : Memref sig .tc .vmem S2x8x2000x128 .f32) (arg9 : DmaSems sig S2x8)

/-- One time step of one slot. -/
abbrev boxOf (o : Fin 4 → Nat) (h : ∀ a, o a + S1x1x2000x128.size a ≤ S2x8x2000x128.size a) : Memref sig .tc .vmem S2000x128 .f32 :=
  (arg8.slice (Rect.unit (s := S2x8x2000x128) o S1x1x2000x128.size h) (fun _ => rfl)).squeeze S2000x128 squeezes_S1x1x2000x128_S2000x128
/-- One time step of one block of nodes. -/
abbrev blkOf (o : Fin 3 → Nat) (h : ∀ a, o a + S2000x1x128.size a ≤ S100000x8x128.size a) : Memref sig .tc .hbm S2000x128 .f32 :=
  (arg1.slice (Rect.unit (s := S100000x8x128) o S2000x1x128.size h) (fun _ => rfl)).squeeze S2000x128 squeezes_S2000x1x128_S2000x128
/-- The semaphore of one time step of one slot. -/
abbrev cellOf (o : Fin 2 → Nat) (h : ∀ a, o a + S1x1.size a ≤ S2x8.size a) : DmaSem sig :=
  ((arg9.slice (Rect.unit (s := S2x8) o S1x1.size h)).squeeze S_ squeezes_S1x1_S_).sem

/-- The start of the copy of one time step of a block into a slot. -/
def enq (oc : Fin 2 → Nat) (hc : ∀ a, oc a + S1x1.size a ≤ S2x8.size a) (od : Fin 4 → Nat) (hd : ∀ a, od a + S1x1x2000x128.size a ≤ S2x8x2000x128.size a)
    (ox : Fin 3 → Nat) (hx : ∀ a, ox a + S2000x1x128.size a ≤ S100000x8x128.size a) : P F PUnit :=
  Prog.lift (.enqueueDma (blkOf arg1 ox hx) (.here (boxOf arg8 od hd)) (.dma (cellOf arg9 oc hc)) ((View.wordExact_bits rfl).reshape _ _) ((View.wordExact_bits rfl).reshape _ _) ⟨Or.inl rfl, trivial⟩)

/-- The wait for that copy. -/
def wt (oc : Fin 2 → Nat) (hc : ∀ a, oc a + S1x1.size a ≤ S2x8.size a) (od : Fin 4 → Nat) (hd : ∀ a, od a + S1x1x2000x128.size a ≤ S2x8x2000x128.size a)
    (ox : Fin 3 → Nat) (hx : ∀ a, ox a + S2000x1x128.size a ≤ S100000x8x128.size a) : P F PUnit :=
  Prog.lift (.waitDma2 (cellOf arg9 oc hc) (blkOf arg1 ox hx) (boxOf arg8 od hd) ((View.wordExact_bits rfl).reshape _ _) ((View.wordExact_bits rfl).reshape _ _))
end

/-- A family of programs, run in order. -/
def seqs : {n : Nat} → (Fin n → P F PUnit) → P F PUnit
  | 0, _ => pure ⟨⟩
  | _ + 1, p => p 0 >>= fun _ => seqs fun t => p t.succ

section
variable (i : grid0.Coords) (arg1 : Memref sig .tc .hbm S100000x8x128 .f32) (arg8 : Memref sig .tc .vmem S2x8x2000x128 .f32) (arg9 : DmaSems sig S2x8)

/-- The starts of the block of the first grid point. -/
def starts0 (h : k0_cond1 i = 1#1) (t : Fin 8) : P F PUnit := match t with
  | 0 => enq arg1 arg8 arg9 ![0, 0] inb_S2x8_S1x1_0_0 ![0, 0, 0, 0] inb_S2x8x2000x128_S1x1x2000x128_0_0_0_0 (k0_off1 i) (k0_off1_inb i h)
  | 1 => enq arg1 arg8 arg9 ![0, 1] inb_S2x8_S1x1_0_1 ![0, 1, 0, 0] inb_S2x8x2000x128_S1x1x2000x128_0_1_0_0 (k0_off2 i) (k0_off2_inb i h)
  | 2 => enq arg1 arg8 arg9 ![0, 2] inb_S2x8_S1x1_0_2 ![0, 2, 0, 0] inb_S2x8x2000x128_S1x1x2000x128_0_2_0_0 (k0_off3 i) (k0_off3_inb i h)
  | 3 => enq arg1 arg8 arg9 ![0, 3] inb_S2x8_S1x1_0_3 ![0, 3, 0, 0] inb_S2x8x2000x128_S1x1x2000x128_0_3_0_0 (k0_off4 i) (k0_off4_inb i h)
  | 4 => enq arg1 arg8 arg9 ![0, 4] inb_S2x8_S1x1_0_4 ![0, 4, 0, 0] inb_S2x8x2000x128_S1x1x2000x128_0_4_0_0 (k0_off5 i) (k0_off5_inb i h)
  | 5 => enq arg1 arg8 arg9 ![0, 5] inb_S2x8_S1x1_0_5 ![0, 5, 0, 0] inb_S2x8x2000x128_S1x1x2000x128_0_5_0_0 (k0_off6 i) (k0_off6_inb i h)
  | 6 => enq arg1 arg8 arg9 ![0, 6] inb_S2x8_S1x1_0_6 ![0, 6, 0, 0] inb_S2x8x2000x128_S1x1x2000x128_0_6_0_0 (k0_off7 i) (k0_off7_inb i h)
  | 7 => enq arg1 arg8 arg9 ![0, 7] inb_S2x8_S1x1_0_7 ![0, 7, 0, 0] inb_S2x8x2000x128_S1x1x2000x128_0_7_0_0 (k0_off8 i) (k0_off8_inb i h)

/-- The starts of the block of the next grid point. -/
def starts1 (h : k0_cond2 i = 1#1) (t : Fin 8) : P F PUnit := match t with
  | 0 => enq arg1 arg8 arg9 (k0_off9 i) (k0_off9_inb i h) (k0_off10 i) (k0_off10_inb i h) (k0_off11 i) (k0_off11_inb i h)
  | 1 => enq arg1 arg8 arg9 (k0_off12 i) (k0_off12_inb i h) (k0_off13 i) (k0_off13_inb i h) (k0_off14 i) (k0_off14_inb i h)
  | 2 => enq arg1 arg8 arg9 (k0_off15 i) (k0_off15_inb i h) (k0_off16 i) (k0_off16_inb i h) (k0_off17 i) (k0_off17_inb i h)
  | 3 => enq arg1 arg8 arg9 (k0_off18 i) (k0_off18_inb i h) (k0_off19 i) (k0_off19_inb i h) (k0_off20 i) (k0_off20_inb i h)
  | 4 => enq arg1 arg8 arg9 (k0_off21 i) (k0_off21_inb i h) (k0_off22 i) (k0_off22_inb i h) (k0_off23 i) (k0_off23_inb i h)
  | 5 => enq arg1 arg8 arg9 (k0_off24 i) (k0_off24_inb i h) (k0_off25 i) (k0_off25_inb i h) (k0_off26 i) (k0_off26_inb i h)
  | 6 => enq arg1 arg8 arg9 (k0_off27 i) (k0_off27_inb i h) (k0_off28 i) (k0_off28_inb i h) (k0_off29 i) (k0_off29_inb i h)
  | 7 => enq arg1 arg8 arg9 (k0_off30 i) (k0_off30_inb i h) (k0_off31 i) (k0_off31_inb i h) (k0_off32 i) (k0_off32_inb i h)

/-- The waits for the block of the grid point. -/
def waitsAt (t : Fin 8) : P F PUnit := match t with
  | 0 => wt arg1 arg8 arg9 (k0_off33 i) (k0_off33_inb i) (k0_off34 i) (k0_off34_inb i) (k0_off35 i) (k0_off35_inb i)
  | 1 => wt arg1 arg8 arg9 (k0_off36 i) (k0_off36_inb i) (k0_off37 i) (k0_off37_inb i) (k0_off38 i) (k0_off38_inb i)
  | 2 => wt arg1 arg8 arg9 (k0_off39 i) (k0_off39_inb i) (k0_off40 i) (k0_off40_inb i) (k0_off41 i) (k0_off41_inb i)
  | 3 => wt arg1 arg8 arg9 (k0_off42 i) (k0_off42_inb i) (k0_off43 i) (k0_off43_inb i) (k0_off44 i) (k0_off44_inb i)
  | 4 => wt arg1 arg8 arg9 (k0_off45 i) (k0_off45_inb i) (k0_off46 i) (k0_off46_inb i) (k0_off47 i) (k0_off47_inb i)
  | 5 => wt arg1 arg8 arg9 (k0_off48 i) (k0_off48_inb i) (k0_off49 i) (k0_off49_inb i) (k0_off50 i) (k0_off50_inb i)
  | 6 => wt arg1 arg8 arg9 (k0_off51 i) (k0_off51_inb i) (k0_off52 i) (k0_off52_inb i) (k0_off53 i) (k0_off53_inb i)
  | 7 => wt arg1 arg8 arg9 (k0_off54 i) (k0_off54_inb i) (k0_off55 i) (k0_off55_inb i) (k0_off56 i) (k0_off56_inb i)

/-- Everything before the loops. -/
def copies : P F PUnit := do
  let _ ← (if h : k0_cond1 i = 1#1 then seqs (starts0 i arg1 arg8 arg9 h) else pure ⟨⟩ : P F PUnit)
  let _ ← (if h : k0_cond2 i = 1#1 then seqs (starts1 i arg1 arg8 arg9 h) else pure ⟨⟩ : P F PUnit)
  seqs (waitsAt i arg1 arg8 arg9)

end

/-- The rest of the printed body's first part after the first block's starts, where both of its branches lead. -/
def afterFirst (i : grid0.Coords) (arg1 : Memref sig .tc .hbm S100000x8x128 .f32) (arg8 : Memref sig .tc .vmem S2x8x2000x128 .f32) (arg9 : DmaSems sig S2x8) : P F (BitVec 32) :=
  if h : k0_cond2 i = 1#1 then (seqs (starts1 i arg1 arg8 arg9 h) >>= fun _ => waitsAt i arg1 arg8 arg9 0 >>= fun _ => pure (BitVec.ofNat 32 (i 0).val))
  else (waitsAt i arg1 arg8 arg9 0 >>= fun _ => pure (BitVec.ofNat 32 (i 0).val))

/-- The first part of the printed body. -/
theorem part5_eq (i : grid0.Coords) (arg1 : Memref sig .tc .hbm S100000x8x128 .f32) (harg1 : arg1.IsWhole) (arg2 : Memref sig .tc .vmem S1x8x2000 .i32) (harg2 : arg2.IsWhole) (arg3 : Memref sig .tc .vmem S192x128 .bf16) (harg3 : arg3.IsWhole) (arg4 : Memref sig .tc .vmem S192x32 .bf16) (harg4 : arg4.IsWhole) (arg5 : Memref sig .tc .vmem S192x1 .f32) (harg5 : arg5.IsWhole) (arg6 : Memref sig .tc .vmem S64x1 .f32) (harg6 : arg6.IsWhole) (arg7 : Memref sig .tc .vmem S2000x32 .f32) (harg7 : arg7.IsWhole) (arg8 : Memref sig .tc .vmem S2x8x2000x128 .f32) (harg8 : arg8.IsWhole) (arg9 : DmaSems sig S2x8) :
    k0_part5 (F := F) i arg1 harg1 arg2 harg2 arg3 harg3 arg4 harg4 arg5 harg5 arg6 harg6 arg7 harg7 arg8 harg8 arg9 = (if h : k0_cond1 i = 1#1 then (seqs (starts0 i arg1 arg8 arg9 h) >>= fun _ => afterFirst i arg1 arg8 arg9) else afterFirst i arg1 arg8 arg9) := by
  chain_rfl

/-- The other waits of the printed body. -/
theorem waits_eq (i : grid0.Coords) (arg1 : Memref sig .tc .hbm S100000x8x128 .f32) (harg1 : arg1.IsWhole) (arg2 : Memref sig .tc .vmem S1x8x2000 .i32) (harg2 : arg2.IsWhole) (arg3 : Memref sig .tc .vmem S192x128 .bf16) (harg3 : arg3.IsWhole) (arg4 : Memref sig .tc .vmem S192x32 .bf16) (harg4 : arg4.IsWhole) (arg5 : Memref sig .tc .vmem S192x1 .f32) (harg5 : arg5.IsWhole) (arg6 : Memref sig .tc .vmem S64x1 .f32) (harg6 : arg6.IsWhole) (arg7 : Memref sig .tc .vmem S2000x32 .f32) (harg7 : arg7.IsWhole) (arg8 : Memref sig .tc .vmem S2x8x2000x128 .f32) (harg8 : arg8.IsWhole) (arg9 : DmaSems sig S2x8) :
    (waitsAt i arg1 arg8 arg9 0 >>= fun _ => waits (F := F) i arg1 harg1 arg2 harg2 arg3 harg3 arg4 harg4 arg5 harg5 arg6 harg6 arg7 harg7 arg8 harg8 arg9) = seqs (waitsAt i arg1 arg8 arg9) := by
  chain_rfl

/-- The printed body is its copies followed by its loops. -/
theorem body_copies (i : grid0.Coords) (arg1 : Memref sig .tc .hbm S100000x8x128 .f32) (harg1 : arg1.IsWhole) (arg2 : Memref sig .tc .vmem S1x8x2000 .i32) (harg2 : arg2.IsWhole) (arg3 : Memref sig .tc .vmem S192x128 .bf16) (harg3 : arg3.IsWhole) (arg4 : Memref sig .tc .vmem S192x32 .bf16) (harg4 : arg4.IsWhole) (arg5 : Memref sig .tc .vmem S192x1 .f32) (harg5 : arg5.IsWhole) (arg6 : Memref sig .tc .vmem S64x1 .f32) (harg6 : arg6.IsWhole) (arg7 : Memref sig .tc .vmem S2000x32 .f32) (harg7 : arg7.IsWhole) (arg8 : Memref sig .tc .vmem S2x8x2000x128 .f32) (harg8 : arg8.IsWhole) (arg9 : DmaSems sig S2x8) :
    cc0__bigru_kernel (F := F) i arg1 harg1 arg2 harg2 arg3 harg3 arg4 harg4 arg5 harg5 arg6 harg6 arg7 harg7 arg8 harg8 arg9 = (copies i arg1 arg8 arg9 >>= fun _ => compute i arg2 arg3 arg4 arg5 arg6 arg7 arg8) := by
  rw [body_eq, part5_eq]
  unfold copies afterFirst
  rw [← waits_eq i arg1 harg1 arg2 harg2 arg3 harg3 arg4 harg4 arg5 harg5 arg6 harg6 arg7 harg7 arg8 harg8 arg9]
  by_cases h1 : k0_cond1 i = 1#1 <;> by_cases h2 : k0_cond2 i = 1#1 <;>
    simp only [dif_pos, dif_neg, h1, h2, not_false_eq_true, bind_assoc (m := P F), pure_bind (m := P F)]

end Cert.KernelIdeal.Bi
-- ==== Proof.KernelIdeal.Ring.lean ====
/- The double buffer: sixteen boxes (slot, time step), each with its own semaphore and its own share of the node
   features; a box is free, being filled with a block's time step, or landed. What the starts and the waits of
   `Copies.lean` do to these states. -/
module

public import proofs.«01_k».proof.Proof.KernelIdeal.Copies
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.ValueLayout

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's algebra: the pipeline library's beside the transfers' counters. -/
local notation "𝕄" => MT nD τ sig Unit (Elt F) ℕ (Pipeline.UD sig nD τ) ℕ

/-- The node features. -/
abbrev xM : Memref sig .tc .hbm S100000x8x128 .f32 := Memref.whole main_arg0
/-- The double buffer. -/
abbrev scM : Memref sig .tc .vmem S2x8x2000x128 .f32 := Memref.whole cc0_scratch0

/-! ## The boxes and the blocks -/

theorem box_inb (s : Fin 2) (t : Fin 8) : ∀ a, (![s.val, t.val, 0, 0] : Fin 4 → Nat) a + S1x1x2000x128.size a ≤ S2x8x2000x128.size a := by
  intro a; fin_cases a <;> simp <;> omega
theorem cell_inb (s : Fin 2) (t : Fin 8) : ∀ a, (![s.val, t.val] : Fin 2 → Nat) a + S1x1.size a ≤ S2x8.size a := by
  intro a; fin_cases a <;> simp <;> omega
theorem blk_inb (b : Fin 50) (t : Fin 8) : ∀ a, (![2000 * b.val, t.val, 0] : Fin 3 → Nat) a + S2000x1x128.size a ≤ S100000x8x128.size a := by
  intro a; fin_cases a <;> simp <;> omega

/-- The box of a slot and a time step. -/
abbrev box (s : Fin 2) (t : Fin 8) : Memref sig .tc .vmem S2000x128 .f32 := boxOf scM ![s.val, t.val, 0, 0] (box_inb s t)
/-- Its semaphore. -/
abbrev cell (s : Fin 2) (t : Fin 8) : DmaSem sig := cellOf cc0_scratch1 ![s.val, t.val] (cell_inb s t)
/-- One time step of a block of the node features. -/
abbrev blk (b : Fin 50) (t : Fin 8) : Memref sig .tc .hbm S2000x128 .f32 := blkOf xM ![2000 * b.val, t.val, 0] (blk_inb b t)

theorem box_emb (s : Fin 2) (t : Fin 8) (r : Fin 2000) (l : Fin 128) : (box s t).view.emb (ix2 r l) = (ix4 s t r l : S2x8x2000x128.Idx) := by
  show (Rect.unit (s := S2x8x2000x128) ![s.val, t.val, 0, 0] S1x1x2000x128.size (box_inb s t)).emb (Shape.reshapeEquiv _ (ix2 r l)) = _
  rw [reshapeEquiv_ix2_11ab]
  funext a; apply Fin.ext
  fin_cases a <;> simp [Rect.emb, Rect.unit]

theorem blk_emb (b : Fin 50) (t : Fin 8) (r : Fin 2000) (l : Fin 128) :
    (blk b t).view.emb (ix2 r l) = (ix3 (⟨2000 * b.val + r.val, by omega⟩ : Fin 100000) t l : S100000x8x128.Idx) := by
  show (Rect.unit (s := S100000x8x128) ![2000 * b.val, t.val, 0] S2000x1x128.size (blk_inb b t)).emb (Shape.reshapeEquiv _ (ix2 r l)) = _
  rw [Shape.reshapeEquiv_eq_of_rowMajor (y := ix3 r (0 : Fin 1) l) _ (by
    rw [Shape.rowMajor_val_three, Shape.rowMajor_val_two]
    show ((r.val * 1 + 0) * 128 + l.val) = r.val * 128 + l.val
    omega)]
  funext a; apply Fin.ext
  fin_cases a <;> simp [Rect.emb, Rect.unit]

/-- What a slot holds once block `b` has landed in it. -/
def lbuf (X : S100000x8x128.Idx → Elt F .f32) (b : Fin 50) (k : S2x8x2000x128.Idx) : Elt F .f32 :=
  X (ix3 (⟨2000 * b.val + (k 2).val, by have : (k 2).val < 2000 := (k 2).isLt; omega⟩ : Fin 100000) (k 1) (k 3))

theorem cell_eq (s : Fin 2) (t : Fin 8) : ∀ o h, o = ![s.val, t.val] → cellOf cc0_scratch1 o h = cell s t := by
  rintro _ _ rfl; rfl

/-! ## A whole share in sixteen parts -/

/-- Part `i` of `n + 1` parts of a share: halves of what the parts before leave, the last all that is left. -/
def part : Nat → Nat → PosShare TreeShare → PosShare TreeShare
  | 0, _, q => q
  | _ + 1, 0, q => q.left
  | n + 1, i + 1, q => part n i q.right

/-- A buffer held with a share is held with each of its parts. -/
theorem pointsTo_parts {ℓ : Loc nD τ sig} (f : Buf (Elt F) ℓ) : ∀ (n : Nat) (q : PosShare TreeShare),
    (ℓ ↦{q} f : sProp 𝕄) = bigSep Finset.univ fun i : Fin (n + 1) => ℓ ↦{part n i.val q} f
  | 0, q => by rw [bigSep_univ_of_subsingleton (0 : Fin 1)]; rfl
  | n + 1, q => by
    rw [Fin.univ_succ, Finset.cons_eq_insert, bigSep_insert (by simp [Fin.succ_ne_zero]), bigSep_map]
    have e := pointsTo_share (ℓ := ℓ) (I := Finset.univ) (f := f) (Ix := Unit) (Name := ℕ) (U := Pipeline.UD sig nD τ) (Lvl := ℕ) (PosShare.mem_left_op_right q)
    rw [equiv_iff.mp ⟨e.1, e.2⟩, pointsTo_parts f n q.right]
    rfl

/-! ## The states of a box -/

section States
variable (c : Dev nD) (X : S100000x8x128.Idx → Elt F .f32)

/-- The share of the node features that box `(s, t)` reads with. -/
def qs (s : Fin 2) (t : Fin 8) : PosShare TreeShare := part 15 (8 * s.val + t.val) fullShare

/-- The box's share of all the node features. -/
def xShare (s : Fin 2) (t : Fin 8) : sProp 𝕄 := xM.view.loc (c : Thread nD τ) ↦{qs s t} X

/-- The box holds something, and nothing is on its way. -/
def free1 (s : Fin 2) (t : Fin 8) : sProp 𝕄 :=
  iprop((∃ f, (box s t).view.loc (c : Thread nD τ) ↦[(box s t).view.set]{fullShare} f) ∗ semVal ((c : Thread nD τ), .dma (cell s t)) 0 ∗ xShare c X s t)

/-- The box holds time step `t` of block `b`. -/
def land1 (b : Fin 50) (s : Fin 2) (t : Fin 8) : sProp 𝕄 :=
  iprop(((box s t).view.loc (c : Thread nD τ) ↦[(box s t).view.set]{fullShare} lbuf X b) ∗ semVal ((c : Thread nD τ), .dma (cell s t)) 0 ∗ xShare c X s t)

/-- What the copies are credited. -/
abbrev credit : ℕ := (box 0 0).view.dmaCredit

/-- Time step `t` of block `b` is on its way into the box. -/
def busy1 (b : Fin 50) (s : Fin 2) (t : Fin 8) : sProp 𝕄 :=
  iprop(Transfers.Flight (countersEmb (U := Pipeline.UD sig nD τ)) (c : Thread nD τ) (.dma (cell s t)) () credit
      iprop(((box s t).view.loc (c : Thread nD τ) ↦[(box s t).view.set]{fullShare} lbuf X b) ∗ ((blk b t).view.loc (c : Thread nD τ) ↦[(blk b t).view.set]{qs s t} X))
    ∗ ((blk b t).view.loc (c : Thread nD τ) ↦[Finset.univ \ (blk b t).view.set]{qs s t} X))

theorem land1_free1 (b : Fin 50) (s : Fin 2) (t : Fin 8) : land1 c X b s t ⊢ free1 c X s t := by
  unfold land1 free1
  iintro ⟨H, Hs⟩
  isplitl [H]; · iexists _; iexact H
  iexact Hs

theorem landed (b : Fin 50) (s : Fin 2) (t : Fin 8) (f : Buf (Elt F) ((box s t).view.loc (c : Thread nD τ))) :
    ((box s t).view.loc (c : Thread nD τ) ↦[(box s t).view.set]{fullShare} (box s t).view.write (Elt F) f (ReadAs.same.apply ((blk b t).view.read (Elt F) X)) Finset.univ : sProp 𝕄)
      = ((box s t).view.loc (c : Thread nD τ) ↦[(box s t).view.set]{fullShare} lbuf X b) := by
  refine pointsTo_congr fun k hk => ?_
  obtain ⟨z, -, rfl⟩ := Finset.mem_map.mp hk
  rw [View.write_emb_of_mem _ _ (Finset.mem_univ _)]
  obtain ⟨r, l, rfl⟩ : ∃ (r : Fin 2000) (l : Fin 128), z = ix2 r l := ⟨z 0, z 1, eq_ix2 z⟩
  show X ((blk b t).view.emb (ix2 r l)) = lbuf X b ((box s t).view.emb (ix2 r l))
  rw [box_emb, blk_emb]
  rfl

/-- What the core has waited for. -/
def waited : sProp 𝕄 := iprop(∃ W : Waits sig Unit, owes (c : Thread nD τ) 0 W)

local notation "wpc" => wp frame (wpE (defs₀ (F := F)) Variants.none (c : Thread nD τ) none) Set.univ

theorem wp_enq (b : Fin 50) (s : Fin 2) (t : Fin 8) (oc hc od hd ox hx) (eoc : oc = ![s.val, t.val]) (eod : od = ![s.val, t.val, 0, 0]) (eox : ox = ![2000 * b.val, t.val, 0]) :
    iprop(free1 c X s t ∗ waited (F := F) c) ⊢ wpc (enq xM scM cc0_scratch1 oc hc od hd ox hx) (fun _ => iprop(busy1 c X b s t ∗ waited (F := F) c)) := by
  subst eoc; subst eod; subst eox
  unfold free1 busy1 enq xShare
  iintro ⟨⟨⟨%f, Hb⟩, Hs, Hx⟩, HW⟩
  ihave Hx2 := (pointsTo_split_subset (Finset.subset_univ (blk b t).view.set)).1 $$ Hx
  icases Hx2 with ⟨Hx1, Hxr⟩
  iapply (Transfers.wp_dmaLocal (countersEmb (U := Pipeline.UD sig nD τ)) Variants.none (c : Thread nD τ) none () credit rfl (View.dmaCredit_pos _ (by decide)) (Finset.Subset.refl _)) $$ [Hb Hs Hx1]
  · isplitl [Hx1]; · iexact Hx1
    isplitl [Hb]; · iexact Hb
    iexact Hs
  iintro HF
  iapply (Entails.of_eq (wp_ret _ _ _ _ _).symm)
  imodintro
  isplitl [HF Hxr]
  · isplitl [HF]
    · rw [landed]
      iexact HF
    · iexact Hxr
  iexact HW

theorem wp_wt (b : Fin 50) (s : Fin 2) (t : Fin 8) (oc hc od hd ox hx) (eoc : oc = ![s.val, t.val]) :
    iprop(busy1 c X b s t ∗ waited (F := F) c) ⊢ wpc (wt xM scM cc0_scratch1 oc hc od hd ox hx) (fun _ => iprop(land1 c X b s t ∗ waited (F := F) c)) := by
  subst eoc
  unfold land1 busy1 wt xShare waited
  iintro ⟨⟨HF, Hxr⟩, ⟨%W, HW⟩⟩
  iapply (Transfers.wp_waitLocal (countersEmb (U := Pipeline.UD sig nD τ)) Variants.none (c : Thread nD τ) none () (srcw := blkOf xM ox hx) (dstw := boxOf scM od hd) (hsrc := (View.wordExact_bits rfl).reshape _ _) (hdst := (View.wordExact_bits rfl).reshape _ _) (N := credit) rfl) $$ [HF HW]
  · isplitl [HF]; · iexact HF
    iexact HW
  iintro ⟨⟨Hb, Hx⟩, Hs, HW⟩
  iapply (Entails.of_eq (wp_ret _ _ _ _ _).symm)
  imodintro
  isplitl [Hb Hx Hxr Hs]
  · isplitl [Hb]; · iexact Hb
    isplitl [Hs]; · iexact Hs
    iapply (pointsTo_split_subset (Finset.subset_univ (blk b t).view.set)).2
    isplitl [Hx]; · iexact Hx
    iexact Hxr
  · iexists _; iexact HW

end States

end Cert.KernelIdeal.Bi
-- ==== Proof.KernelIdeal.Turns.lean ====
/- One turn of the double buffer: at a grid point the block's slot goes from on its way to landed, and the other
   slot from free to on its way with the next block. -/
module

public import proofs.«01_k».proof.Proof.KernelIdeal.Ring

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's algebra: the pipeline library's beside the transfers' counters. -/
local notation "𝕄" => MT nD τ sig Unit (Elt F) ℕ (Pipeline.UD sig nD τ) ℕ

/-- The slot of a block. -/
def sl (n : ℕ) : Fin 2 := ⟨n % 2, Nat.mod_lt _ (by decide)⟩

theorem sl_add_two (n : ℕ) : sl (n + 2) = sl n := Fin.ext (Nat.add_mod_right n 2)

theorem cond1_iff : ∀ i : grid0.Coords, k0_cond1 i = 1#1 ↔ (i 0).val = 0 := by decide +kernel
theorem cond2_iff : ∀ i : grid0.Coords, k0_cond2 i = 1#1 ↔ (i 0).val + 1 < 50 := by decide +kernel

/-- The semaphores and boxes of the next block's starts. -/
theorem next_offs : ∀ i : grid0.Coords,
    k0_off9 i = ![((i 0).val + 1) % 2, 0] ∧ k0_off10 i = ![((i 0).val + 1) % 2, 0, 0, 0] ∧
    k0_off12 i = ![((i 0).val + 1) % 2, 1] ∧ k0_off13 i = ![((i 0).val + 1) % 2, 1, 0, 0] ∧
    k0_off15 i = ![((i 0).val + 1) % 2, 2] ∧ k0_off16 i = ![((i 0).val + 1) % 2, 2, 0, 0] ∧
    k0_off18 i = ![((i 0).val + 1) % 2, 3] ∧ k0_off19 i = ![((i 0).val + 1) % 2, 3, 0, 0] ∧
    k0_off21 i = ![((i 0).val + 1) % 2, 4] ∧ k0_off22 i = ![((i 0).val + 1) % 2, 4, 0, 0] ∧
    k0_off24 i = ![((i 0).val + 1) % 2, 5] ∧ k0_off25 i = ![((i 0).val + 1) % 2, 5, 0, 0] ∧
    k0_off27 i = ![((i 0).val + 1) % 2, 6] ∧ k0_off28 i = ![((i 0).val + 1) % 2, 6, 0, 0] ∧
    k0_off30 i = ![((i 0).val + 1) % 2, 7] ∧ k0_off31 i = ![((i 0).val + 1) % 2, 7, 0, 0] := by decide +kernel

/-- The semaphores of the waits. -/
theorem wait_offs : ∀ i : grid0.Coords,
    k0_off33 i = ![(i 0).val % 2, 0] ∧
    k0_off36 i = ![(i 0).val % 2, 1] ∧
    k0_off39 i = ![(i 0).val % 2, 2] ∧
    k0_off42 i = ![(i 0).val % 2, 3] ∧
    k0_off45 i = ![(i 0).val % 2, 4] ∧
    k0_off48 i = ![(i 0).val % 2, 5] ∧
    k0_off51 i = ![(i 0).val % 2, 6] ∧
    k0_off54 i = ![(i 0).val % 2, 7] := by decide +kernel

section
variable (c : Dev nD) (X : S100000x8x128.Idx → Elt F .f32)

local notation "wpc" => wp frame (wpE (defs₀ (F := F)) Variants.none (c : Thread nD τ) none) Set.univ

/-- A program's triple beside what it does not touch, its result weakened. -/
theorem wp_beside {α : Type} {A S : sProp 𝕄} {p : P F α} {B Q : α → sProp 𝕄} (h : A ⊢ wpc p B) (hQ : ∀ a, iprop(B a ∗ S) ⊢ Q a) :
    iprop(A ∗ S) ⊢ wpc p Q :=
  ((sep_mono h .rfl).trans (wp_frame_r _ _ _)).trans (wp_mono _ _ _ hQ)

/-- The program that does nothing keeps what it has. -/
theorem wp_nothing (A : sProp 𝕄) : A ⊢ wpc (pure ⟨⟩ : P F PUnit) (fun _ => A) := by
  iintro H
  iapply (Entails.of_eq (wp_ret _ _ _ _ _).symm)
  imodintro
  iexact H

/-- Programs that each turn their own part of a state turn all of it, run in order. -/
theorem wp_seqs {R : sProp 𝕄} : ∀ {n : ℕ} (A B : Fin n → sProp 𝕄) (f : Fin n → P F PUnit),
    (∀ t, iprop(A t ∗ R) ⊢ wpc (f t) (fun _ => iprop(B t ∗ R))) →
    iprop(bigSep Finset.univ A ∗ R) ⊢ wpc (seqs f) (fun _ => iprop(bigSep Finset.univ B ∗ R))
  | 0, A, B, f, h => by
    unfold seqs
    iintro H
    iapply (Entails.of_eq (wp_pure _ _ _ _ _).symm)
    imodintro
    rw [show A = B from funext fun t => t.elim0]
    iexact H
  | n + 1, A, B, f, h => by
    have eb : ∀ Φ : Fin (n + 1) → sProp 𝕄, bigSep Finset.univ Φ = iprop(Φ 0 ∗ bigSep Finset.univ fun t : Fin n => Φ t.succ) := fun Φ => by
      rw [Fin.univ_succ, Finset.cons_eq_insert, bigSep_insert (by simp [Fin.succ_ne_zero]), bigSep_map]; rfl
    unfold seqs
    rw [wp_bind, eb, eb]
    iintro ⟨⟨HA, HAs⟩, HR⟩
    iapply (wp_beside c (S := bigSep Finset.univ fun t : Fin n => A t.succ) (h 0) fun _ => ?_)
    rotate_left
    · isplitl [HA HR]
      · isplitl [HA]; · iexact HA
        iexact HR
      iexact HAs
    · iintro ⟨⟨HB, HR⟩, HAs⟩
      iapply (wp_beside c (S := B 0) (wp_seqs (fun t => A t.succ) (fun t => B t.succ) (fun t => f t.succ) fun t => h t.succ) fun _ => ?_)
      rotate_left
      · isplitl [HAs HR]
        · isplitl [HAs]; · iexact HAs
          iexact HR
        iexact HB
      · iintro ⟨⟨HBs, HR⟩, HB⟩
        isplitl [HB HBs]
        · isplitl [HB]; · iexact HB
          iexact HBs
        iexact HR

/-- A slot with nothing on its way. -/
def freeS (s : Fin 2) : sProp 𝕄 := bigSep Finset.univ fun t : Fin 8 => free1 c X s t
/-- The slot of block `b` with all of the block on its way. -/
def busyS (b : Fin 50) : sProp 𝕄 := bigSep Finset.univ fun t : Fin 8 => busy1 c X b (sl b.val) t
/-- The slot of block `b` with the block landed. -/
def landS (b : Fin 50) : sProp 𝕄 := bigSep Finset.univ fun t : Fin 8 => land1 c X b (sl b.val) t

theorem landS_freeS (b : Fin 50) : landS c X b ⊢ freeS c X (sl b.val) :=
  bigSep_mono fun t _ => land1_free1 c X b _ t

/-- The slot of block `n` before grid point `n`: on its way if an earlier point has started it. -/
def cur (n : ℕ) : sProp 𝕄 := if h : 0 < n ∧ n < 50 then busyS c X ⟨n, h.2⟩ else freeS c X (sl n)

variable (i : grid0.Coords)

/-- The block of a grid point. -/
abbrev blkNo : Fin 50 := i 0

theorem wp_starts0 (h : k0_cond1 i = 1#1) :
    iprop(cur c X (i 0).val ∗ waited (F := F) c) ⊢ wpc (seqs (starts0 i xM scM cc0_scratch1 h)) (fun _ => iprop(busyS c X (blkNo i) ∗ waited (F := F) c)) := by
  have h0 : (i 0).val = 0 := (cond1_iff i).mp h
  have e : cur c X (i 0).val = freeS c X (sl (i 0).val) := dif_neg (by omega)
  rw [e]
  refine wp_seqs c _ _ _ fun t => ?_
  have ec : ∀ k : ℕ, (![0, k] : Fin 2 → ℕ) = ![(sl (i 0).val).val, k] := fun k => by simp [sl, h0]
  have ed : ∀ k : ℕ, (![0, k, 0, 0] : Fin 4 → ℕ) = ![(sl (i 0).val).val, k, 0, 0] := fun k => by simp [sl, h0]
  match t with
  | 0 => exact wp_enq c X (blkNo i) (sl (i 0).val) 0 _ _ _ _ _ _ (ec 0) (ed 0) (k0_off1_eq i)
  | 1 => exact wp_enq c X (blkNo i) (sl (i 0).val) 1 _ _ _ _ _ _ (ec 1) (ed 1) (k0_off2_eq i)
  | 2 => exact wp_enq c X (blkNo i) (sl (i 0).val) 2 _ _ _ _ _ _ (ec 2) (ed 2) (k0_off3_eq i)
  | 3 => exact wp_enq c X (blkNo i) (sl (i 0).val) 3 _ _ _ _ _ _ (ec 3) (ed 3) (k0_off4_eq i)
  | 4 => exact wp_enq c X (blkNo i) (sl (i 0).val) 4 _ _ _ _ _ _ (ec 4) (ed 4) (k0_off5_eq i)
  | 5 => exact wp_enq c X (blkNo i) (sl (i 0).val) 5 _ _ _ _ _ _ (ec 5) (ed 5) (k0_off6_eq i)
  | 6 => exact wp_enq c X (blkNo i) (sl (i 0).val) 6 _ _ _ _ _ _ (ec 6) (ed 6) (k0_off7_eq i)
  | 7 => exact wp_enq c X (blkNo i) (sl (i 0).val) 7 _ _ _ _ _ _ (ec 7) (ed 7) (k0_off8_eq i)

theorem wp_starts1 (h : k0_cond2 i = 1#1) :
    iprop(freeS c X (sl ((i 0).val + 1)) ∗ waited (F := F) c) ⊢ wpc (seqs (starts1 i xM scM cc0_scratch1 h)) (fun _ => iprop(cur c X ((i 0).val + 1) ∗ waited (F := F) c)) := by
  have h0 : (i 0).val + 1 < 50 := (cond2_iff i).mp h
  have e : cur c X ((i 0).val + 1) = busyS c X ⟨(i 0).val + 1, h0⟩ := dif_pos ⟨Nat.succ_pos _, h0⟩
  rw [e]
  refine wp_seqs c _ _ _ fun t => ?_
  obtain ⟨c0, d0, c1, d1, c2, d2, c3, d3, c4, d4, c5, d5, c6, d6, c7, d7⟩ := next_offs i
  match t with
  | 0 => exact wp_enq c X ⟨(i 0).val + 1, h0⟩ (sl ((i 0).val + 1)) 0 _ _ _ _ _ _ c0 d0 ((k0_off11_eq i).trans (by rfl))
  | 1 => exact wp_enq c X ⟨(i 0).val + 1, h0⟩ (sl ((i 0).val + 1)) 1 _ _ _ _ _ _ c1 d1 ((k0_off14_eq i).trans (by rfl))
  | 2 => exact wp_enq c X ⟨(i 0).val + 1, h0⟩ (sl ((i 0).val + 1)) 2 _ _ _ _ _ _ c2 d2 ((k0_off17_eq i).trans (by rfl))
  | 3 => exact wp_enq c X ⟨(i 0).val + 1, h0⟩ (sl ((i 0).val + 1)) 3 _ _ _ _ _ _ c3 d3 ((k0_off20_eq i).trans (by rfl))
  | 4 => exact wp_enq c X ⟨(i 0).val + 1, h0⟩ (sl ((i 0).val + 1)) 4 _ _ _ _ _ _ c4 d4 ((k0_off23_eq i).trans (by rfl))
  | 5 => exact wp_enq c X ⟨(i 0).val + 1, h0⟩ (sl ((i 0).val + 1)) 5 _ _ _ _ _ _ c5 d5 ((k0_off26_eq i).trans (by rfl))
  | 6 => exact wp_enq c X ⟨(i 0).val + 1, h0⟩ (sl ((i 0).val + 1)) 6 _ _ _ _ _ _ c6 d6 ((k0_off29_eq i).trans (by rfl))
  | 7 => exact wp_enq c X ⟨(i 0).val + 1, h0⟩ (sl ((i 0).val + 1)) 7 _ _ _ _ _ _ c7 d7 ((k0_off32_eq i).trans (by rfl))

theorem wp_waitsAt :
    iprop(busyS c X (blkNo i) ∗ waited (F := F) c) ⊢ wpc (seqs (waitsAt i xM scM cc0_scratch1)) (fun _ => iprop(landS c X (blkNo i) ∗ waited (F := F) c)) := by
  refine wp_seqs c _ _ _ fun t => ?_
  obtain ⟨c0, c1, c2, c3, c4, c5, c6, c7⟩ := wait_offs i
  match t with
  | 0 => exact wp_wt c X (blkNo i) (sl (i 0).val) 0 _ _ _ _ _ _ c0
  | 1 => exact wp_wt c X (blkNo i) (sl (i 0).val) 1 _ _ _ _ _ _ c1
  | 2 => exact wp_wt c X (blkNo i) (sl (i 0).val) 2 _ _ _ _ _ _ c2
  | 3 => exact wp_wt c X (blkNo i) (sl (i 0).val) 3 _ _ _ _ _ _ c3
  | 4 => exact wp_wt c X (blkNo i) (sl (i 0).val) 4 _ _ _ _ _ _ c4
  | 5 => exact wp_wt c X (blkNo i) (sl (i 0).val) 5 _ _ _ _ _ _ c5
  | 6 => exact wp_wt c X (blkNo i) (sl (i 0).val) 6 _ _ _ _ _ _ c6
  | 7 => exact wp_wt c X (blkNo i) (sl (i 0).val) 7 _ _ _ _ _ _ c7

/-- The copies of a grid point: its block lands, and the next one is on its way. -/
theorem wp_copies :
    iprop(cur c X (i 0).val ∗ freeS c X (sl ((i 0).val + 1)) ∗ waited (F := F) c)
      ⊢ wpc (copies i xM scM cc0_scratch1) (fun _ => iprop(landS c X (blkNo i) ∗ cur c X ((i 0).val + 1) ∗ waited (F := F) c)) := by
  have h1 : iprop(cur c X (i 0).val ∗ waited (F := F) c)
      ⊢ wpc (if h : k0_cond1 i = 1#1 then seqs (starts0 i xM scM cc0_scratch1 h) else pure ⟨⟩ : P F PUnit) (fun _ => iprop(busyS c X (blkNo i) ∗ waited (F := F) c)) := by
    by_cases h : k0_cond1 i = 1#1
    · rw [dif_pos h]; exact wp_starts0 c X i h
    · rw [dif_neg h]
      have h0 : (i 0).val ≠ 0 := fun e => h ((cond1_iff i).mpr e)
      have e : cur c X (i 0).val = busyS c X (blkNo i) := dif_pos ⟨Nat.pos_of_ne_zero h0, (i 0).isLt⟩
      rw [e]
      exact wp_nothing c _
  have h2 : iprop(freeS c X (sl ((i 0).val + 1)) ∗ waited (F := F) c)
      ⊢ wpc (if h : k0_cond2 i = 1#1 then seqs (starts1 i xM scM cc0_scratch1 h) else pure ⟨⟩ : P F PUnit) (fun _ => iprop(cur c X ((i 0).val + 1) ∗ waited (F := F) c)) := by
    by_cases h : k0_cond2 i = 1#1
    · rw [dif_pos h]; exact wp_starts1 c X i h
    · rw [dif_neg h]
      have h0 : ¬ (i 0).val + 1 < 50 := fun e => h ((cond2_iff i).mpr e)
      have e : cur c X ((i 0).val + 1) = freeS c X (sl ((i 0).val + 1)) := dif_neg (by omega)
      rw [e]
      exact wp_nothing c _
  unfold copies
  rw [wp_bind]
  iintro ⟨Hc, Hf, HW⟩
  iapply (wp_beside c (S := freeS c X (sl ((i 0).val + 1))) h1 fun _ => ?_)
  rotate_left
  · isplitl [Hc HW]
    · isplitl [Hc]; · iexact Hc
      iexact HW
    iexact Hf
  rw [wp_bind]
  iintro ⟨⟨Hb, HW⟩, Hf⟩
  iapply (wp_beside c (S := busyS c X (blkNo i)) h2 fun _ => ?_)
  rotate_left
  · isplitl [Hf HW]
    · isplitl [Hf]; · iexact Hf
      iexact HW
    iexact Hb
  iintro ⟨⟨Hn, HW⟩, Hb⟩
  iapply (wp_beside c (S := cur c X ((i 0).val + 1)) (wp_waitsAt c X i) fun _ => ?_)
  rotate_left
  · isplitl [Hb HW]
    · isplitl [Hb]; · iexact Hb
      iexact HW
    iexact Hn
  iintro ⟨⟨Hl, HW⟩, Hn⟩
  isplitl [Hl]; · iexact Hl
  isplitl [Hn]; · iexact Hn
  iexact HW

end

end Cert.KernelIdeal.Bi
-- ==== Proof.KernelIdeal.Slots.lean ====
/- What the region enters and leaves with, in terms of the slots: the double buffer, its semaphores and the node
   features are both slots free. -/
module

public import proofs.«01_k».proof.Proof.KernelIdeal.Turns

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's algebra: the pipeline library's beside the transfers' counters. -/
local notation "𝕄" => MT nD τ sig Unit (Elt F) ℕ (Pipeline.UD sig nD τ) ℕ

/-- A buffer element is in the box of its slot and time step. -/
theorem box_mem (s : Fin 2) (t : Fin 8) (k : S2x8x2000x128.Idx) : k ∈ (box s t).view.set ↔ k 0 = s ∧ k 1 = t := by
  constructor
  · intro hk
    obtain ⟨z, -, rfl⟩ := Finset.mem_map.mp hk
    obtain ⟨r, l, rfl⟩ : ∃ (r : Fin 2000) (l : Fin 128), z = ix2 r l := ⟨z 0, z 1, eq_ix2 z⟩
    rw [box_emb]
    exact ⟨rfl, rfl⟩
  · rintro ⟨rfl, rfl⟩
    refine Finset.mem_map.mpr ⟨ix2 (k 2) (k 3), Finset.mem_univ _, ?_⟩
    exact (box_emb (k 0) (k 1) (k 2) (k 3)).trans (eq_ix4 k).symm

/-- The boxes' element sets. -/
abbrev boxSet (p : Fin 2 × Fin 8) : Finset S2x8x2000x128.Idx := (box p.1 p.2).view.set

theorem boxes_disjoint (p q : Fin 2 × Fin 8) (h : p ≠ q) : Disjoint (boxSet p) (boxSet q) := by
  refine Finset.disjoint_left.mpr fun k hp hq => h ?_
  obtain ⟨h1, h2⟩ := (box_mem _ _ k).mp hp
  obtain ⟨h3, h4⟩ := (box_mem _ _ k).mp hq
  exact Prod.ext (h1.symm.trans h3) (h2.symm.trans h4)

theorem boxes_cover : Finset.univ.biUnion boxSet = Finset.univ := by
  refine Finset.eq_univ_iff_forall.mpr fun k => Finset.mem_biUnion.mpr ⟨(k 0, k 1), Finset.mem_univ _, (box_mem _ _ k).mpr ⟨rfl, rfl⟩⟩

/-- The body's own semaphores, one a box. -/
abbrev osem (p : Fin 2 × Fin 8) : SemLoc sig := .dma (cell p.1 p.2)
theorem osem_facts : Pipeline.OwnSemFacts spec0 osem := by decide +kernel
/-- The array the body reads itself. -/
def own : Finset (Ref sig .tc) := {main_arg0}
theorem own_sub : own ⊆ Pipeline.restRefs sig spec0 := by decide

section
variable (c : Dev nD) (X : S100000x8x128.Idx → Elt F .f32)

/-- A box at given contents is a box at some. -/
theorem box_some (f : Buf (Elt F) (scM.view.loc (c : Thread nD τ))) (p : Fin 2 × Fin 8) :
    (scM.view.loc (c : Thread nD τ) ↦[boxSet p]{fullShare} f : sProp 𝕄) ⊢ iprop(∃ g, scM.view.loc (c : Thread nD τ) ↦[boxSet p]{fullShare} g) := by
  iintro H; iexists f; iexact H

/-- Both slots free are: the boxes at anything, their semaphores at zero, and the node features whole. -/
theorem free_both : (iprop(freeS c X 0 ∗ freeS c X 1) : sProp 𝕄)
    = iprop((bigSep Finset.univ fun p : Fin 2 × Fin 8 => iprop(∃ f, scM.view.loc (c : Thread nD τ) ↦[boxSet p]{fullShare} f))
        ∗ (bigSep Finset.univ fun p : Fin 2 × Fin 8 => semVal ((c : Thread nD τ), osem p) 0)
        ∗ (xM.view.loc (c : Thread nD τ) ↦{fullShare} X)) := by
  have e1 : (iprop(freeS c X 0 ∗ freeS c X 1) : sProp 𝕄) = bigSep Finset.univ fun p : Fin 2 × Fin 8 => free1 c X p.1 p.2 := by
    rw [bigSep_univ_prod, bigSep_fin_two]; rfl
  rw [e1, pointsTo_parts (ℓ := xM.view.loc (c : Thread nD τ)) X 15 fullShare, bigSep_univ_equiv (finProdFinEquiv (m := 2) (n := 8)), ← bigSep_sep', ← bigSep_sep']
  refine bigSep_congr fun p _ => ?_
  show free1 c X p.1 p.2 = _
  unfold free1 xShare qs
  rw [show ((finProdFinEquiv p : Fin (2 * 8)) : ℕ) = 8 * p.1.val + p.2.val from by simp [finProdFinEquiv]; omega]

variable (V : (c : Dev nD) → (b : Ref sig .tc) → Buf (Elt F) ((c : Thread nD τ).loc b))

/-- What the region enters with is both slots free, … -/
theorem open_slots : Pipeline.ΦD osem spec0 own V c ⊢ (iprop((freeS c (V c main_arg0) 0 ∗ freeS c (V c main_arg0) 1) ∗ (∃ r, prngReg c r)) : sProp 𝕄) := by
  rw [Pipeline.ΦD_eq, scopedRest0_eq]
  unfold own
  rw [bigSep_singleton]
  iintro ⟨⟨%f, Hb⟩, Hr, Hs, Hx⟩
  rw [free_both]
  isplitr [Hr]
  · isplitl [Hb]
    · ihave Hb := (Entails.of_eq (Ring.pointsTo_blocks boxSet boxes_disjoint boxes_cover f)) $$ Hb
      have hm : (bigSep Finset.univ fun p : Fin 2 × Fin 8 => (scM.view.loc (c : Thread nD τ) ↦[boxSet p]{fullShare} f : sProp 𝕄))
          ⊢ bigSep Finset.univ fun p : Fin 2 × Fin 8 => iprop(∃ g, scM.view.loc (c : Thread nD τ) ↦[boxSet p]{fullShare} g) :=
        bigSep_mono fun p _ => box_some c f p
      iapply hm
      iexact Hb
    isplitl [Hs]
    · unfold Pipeline.ownSems0; iexact Hs
    iexact Hx
  iexact Hr

/-- … and both slots free are what it leaves with. -/
theorem close_slots : (iprop((freeS c (V c main_arg0) 0 ∗ freeS c (V c main_arg0) 1) ∗ (∃ r, prngReg c r)) : sProp 𝕄) ⊢ Pipeline.ΦD osem spec0 own V c := by
  rw [Pipeline.ΦD_eq, scopedRest0_eq]
  unfold own
  rw [bigSep_singleton]
  rw [free_both]
  iintro ⟨⟨Hb, Hs, Hx⟩, Hr⟩
  isplitl [Hb]
  · iapply (Ring.pointsTo_blocks_join_exists (ℓ := scM.view.loc (c : Thread nD τ)) boxSet boxes_disjoint boxes_cover (fun _ => (V c main_arg0 : S100000x8x128.Idx → Elt F .f32) (ix3 0 0 0)))
    iexact Hb
  isplitl [Hr]; · iexact Hr
  isplitl [Hs]
  · unfold Pipeline.ownSems0; iexact Hs
  iexact Hx

end

end Cert.KernelIdeal.Bi
-- ==== Proof.KernelIdeal.Tiles.lean ====
/- The body after its copies, on a landed slot: every tile's states are known at every time step, and the stores fill
   the result's block row by row. -/
module

public import proofs.«01_k».proof.Proof.KernelIdeal.Slots
public import Idealize.ShloMosaic.Lib.VecWindow

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's algebra: the pipeline library's beside the transfers' counters. -/
local notation "𝕄" => MT nD τ sig Unit (Elt F) ℕ (Pipeline.UD sig nD τ) ℕ

/-! ## A landed slot, whole -/

/-- The elements of a slot. -/
def slotSet (s : Fin 2) : Finset S2x8x2000x128.Idx := Finset.univ.biUnion fun t : Fin 8 => boxSet (s, t)

theorem slot_mem (s : Fin 2) (k : S2x8x2000x128.Idx) : k ∈ slotSet s ↔ k 0 = s := by
  constructor
  · intro hk
    obtain ⟨t, -, ht⟩ := Finset.mem_biUnion.mp hk
    exact ((box_mem _ _ k).mp ht).1
  · intro h
    exact Finset.mem_biUnion.mpr ⟨k 1, Finset.mem_univ _, (box_mem _ _ k).mpr ⟨h, rfl⟩⟩

section Wp
variable (c : Dev nD) (X : S100000x8x128.Idx → Elt F .f32) (b : Fin 50)
local notation "wpc" => wp frame (wpE (defs₀ (F := F)) Variants.none (c : Thread nD τ) none) Set.univ

/-- A slot holding block `b`. -/
def slotPts (s : Fin 2) : sProp 𝕄 := scM.view.loc (c : Thread nD τ) ↦[slotSet s]{fullShare} lbuf X b

/-- A landed slot is the slot holding its block, beside its semaphores at zero and its shares of the node features. -/
theorem landS_eq : landS c X b = (iprop(slotPts c X b (sl b.val)
      ∗ (bigSep Finset.univ fun t : Fin 8 => iprop(semVal ((c : Thread nD τ), .dma (cell (sl b.val) t)) 0 ∗ xShare c X (sl b.val) t))) : sProp 𝕄) := by
  unfold slotPts
  rw [Ring.pointsTo_sub_blocks (ℓ := scM.view.loc (c : Thread nD τ)) (fun t : Fin 8 => boxSet (sl b.val, t))
      (fun t t' h => boxes_disjoint _ _ fun e => h (Prod.ext_iff.mp e).2) (slotSet (sl b.val)) rfl (lbuf X b), ← bigSep_sep']
  rfl

/-! ## Programs that return a known value -/

/-- A program that returns a known value and keeps what it has, then another. -/
theorem wp_known {α β : Type} {A : sProp 𝕄} {p : P F α} {k : α → P F β} {v : α} {Q : β → sProp 𝕄}
    (h : A ⊢ wpc p (fun a => iprop(⌜a = v⌝ ∗ A))) (hk : A ⊢ wpc (k v) Q) : A ⊢ wpc (p >>= k) Q := by
  rw [wp_bind]
  refine h.trans (wp_mono _ _ _ fun a => ?_)
  iintro ⟨%e, H⟩
  subst e
  iapply hk
  iexact H

/-- The program that returns a value. -/
theorem wp_value {α : Type} (A : sProp 𝕄) (v : α) : A ⊢ wpc (pure v : P F α) (fun a => iprop(⌜a = v⌝ ∗ A)) := by
  iintro H
  iapply (Entails.of_eq (wp_ret _ _ _ _ _).symm)
  imodintro
  isplitr
  · ipureintro; rfl
  iexact H

/-! ## The time steps of a tile -/

variable (i : grid0.Coords) (W : Wts F) (ids : Vec F S1x8x2000 .i32)

/-- What a tile's load reads of the slots. -/
def tile (Y : S2x8x2000x128.Idx → Elt F .f32) (w t j : ℕ) (ht : t < 8) (hj : j + w ≤ 2000) : Vec F (Slab w) .f32 :=
  fun k => Y ((Rect.unit (s := S2x8x2000x128) (tileOff i t j) (Slab w).size (tileOff_inb i t j w ht hj)).emb k)

theorem wp_ld (w : ℕ) (hw : 0 < w) (t j : ℕ) (ht : t < 8) (hj : j + w ≤ 2000) :
    slotPts c X b (sl (i 0).val) ⊢ wpc (ld i scM w hw t j ht hj) (fun a => iprop(⌜a = tile i (lbuf X b) w t j ht hj⌝ ∗ slotPts c X b (sl (i 0).val))) := by
  have hS : (scM.access (Rect.unit (s := S2x8x2000x128) (tileOff i t j) (Slab w).size (tileOff_inb i t j w ht hj))).set ⊆ slotSet (sl (i 0).val) := by
    intro k hk
    obtain ⟨z, -, rfl⟩ := Finset.mem_map.mp hk
    refine (slot_mem _ _).mpr (Fin.ext ?_)
    show (slotW i).toNat + 1 * (z 0).val = (i 0).val % 2
    have h0 : (z 0).val < 1 := (z 0).isLt
    rw [slotW_eq]
    omega
  unfold slotPts ld
  iintro H
  iapply (wp_load_rect Variants.none (c : Thread nD τ) none Set.univ hS) $$ H
  iintro H
  iapply (Entails.of_eq (wp_ret _ _ _ _ _).symm)
  imodintro
  isplitr
  · ipureintro; rfl
  iexact H

/-- One time step of a tile on known states. -/
def stepV (Y : S2x8x2000x128.Idx → Elt F .f32) (w t j : ℕ) (ht : t < 8) (hj : j + w ≤ 2000) (p : Pair F w) : Pair F w :=
  ⟨step w W 0 (tile i Y w t j ht hj) p.f (runningTile ids t ht j w hj),
    step w W 1 (tile i Y w (7 - t) j (by omega) hj) p.b (runningTile ids (7 - t) (by omega) j w hj)⟩

/-- A tile's states after `n` time steps. -/
def tileV (Y : S2x8x2000x128.Idx → Elt F .f32) (w j : ℕ) (hj : j + w ≤ 2000) : (n : ℕ) → n ≤ 8 → Pair F w
  | 0, _ => .zero w
  | n + 1, h => stepV i W ids Y w n j (by omega) hj (tileV Y w j hj n (by omega))

theorem wp_tileStep (w : ℕ) (hw : 0 < w) (t j : ℕ) (ht : t < 8) (hj : j + w ≤ 2000) (p : Pair F w) :
    slotPts c X b (sl (i 0).val) ⊢ wpc (tileStep i W ids scM w hw t j ht hj p)
      (fun a => iprop(⌜a = stepV i W ids (lbuf X b) w t j ht hj p⌝ ∗ slotPts c X b (sl (i 0).val))) :=
  wp_known c (wp_ld c X b i w hw t j ht hj) (wp_known c (wp_ld c X b i w hw (7 - t) j (by omega) hj) (wp_value c _ _))

/-- The states of a group's tiles after `n` time steps. -/
def quadV (Y : S2x8x2000x128.Idx → Elt F .f32) (w j : ℕ) (hj : j + 768 + w ≤ 2000) (n : ℕ) (hn : n ≤ 8) : Quad F w :=
  ⟨tileV i W ids Y 256 j (by omega) n hn, tileV i W ids Y 256 (j + 256) (by omega) n hn,
    tileV i W ids Y 256 (j + 512) (by omega) n hn, tileV i W ids Y w (j + 768) hj n hn⟩

theorem wp_row (w : ℕ) (hw : 0 < w) (j : ℕ) (hj : j + 768 + w ≤ 2000) (n : ℕ) (hn : n < 8) :
    slotPts c X b (sl (i 0).val) ⊢ wpc (row i W ids scM w hw n j hn hj (quadV i W ids (lbuf X b) w j hj n (by omega)))
      (fun a => iprop(⌜a = quadV i W ids (lbuf X b) w j hj (n + 1) (by omega)⌝ ∗ slotPts c X b (sl (i 0).val))) :=
  wp_known c (wp_tileStep c X b i W ids 256 _ n j hn _ _) (wp_known c (wp_tileStep c X b i W ids 256 _ n (j + 256) hn _ _)
    (wp_known c (wp_tileStep c X b i W ids 256 _ n (j + 512) hn _ _) (wp_known c (wp_tileStep c X b i W ids w _ n (j + 768) hn _ _) (wp_value c _ _))))

theorem wp_rows (w : ℕ) (hw : 0 < w) (j : ℕ) (hj : j + 768 + w ≤ 2000) : ∀ (n : ℕ) (hn : n ≤ 8),
    slotPts c X b (sl (i 0).val) ⊢ wpc (rows i W ids scM w hw j hj n hn)
      (fun a => iprop(⌜a = quadV i W ids (lbuf X b) w j hj n hn⌝ ∗ slotPts c X b (sl (i 0).val)))
  | 0, _ => wp_value c _ _
  | n + 1, hn => wp_known c (wp_rows w hw j hj n (by omega)) (wp_row c X b i W ids w hw j hj n (by omega))

/-! ## The result's rows -/

variable (arg7 : Memref sig .tc .vmem S2000x32 .f32)

/-- The first `j` rows of the result are those of `O`. -/
def doneTo (O : S2000x32.Idx → Elt F .f32) (j : ℕ) : sProp 𝕄 :=
  iprop(∃ g, ⌜∀ k : S2000x32.Idx, (k 0).val < j → arg7.view.read (Elt F) g k = O k⌝ ∗ (arg7.view.loc (c : Thread nD τ) ↦[arg7.view.set]{fullShare} g))

theorem wp_st (O : S2000x32.Idx → Elt F .f32) (w : ℕ) (hw : 0 < w) (j : ℕ) (hj : j + w ≤ 2000) (p : Pair F w)
    (hO : ∀ k : (Mat w 32).Idx, O ((Rect.unit (s := S2000x32) ![j, 0] (Mat w 32).size (out_inb j w hj)).emb k) = tileOut p k) :
    doneTo c arg7 O j ⊢ wpc (st arg7 w hw j hj p) (fun _ => doneTo c arg7 O (j + w)) := by
  unfold doneTo st
  iintro ⟨%g, %hg, H⟩
  iapply (wp_load_rect Variants.none (c : Thread nD τ) none Set.univ (m := arg7) (r := Rect.unit (s := S2000x32) ![j, 0] (Mat w 32).size (out_inb j w hj)) (S := arg7.view.set) (View.set_slice_subset _ _)) $$ H
  iintro H
  iapply (wp_store Variants.none (c : Thread nD τ) none Set.univ (m := arg7) (r := Rect.unit (s := S2000x32) ![j, 0] (Mat w 32).size (out_inb j w hj)) (S := arg7.view.set) (View.set_slice_subset _ _)) $$ H
  iintro H
  iapply (Entails.of_eq (wp_ret _ _ _ _ _).symm)
  imodintro
  iexists _
  isplitr [H]
  rotate_left
  · iexact H
  · ipureintro
    intro k hk
    by_cases hkj : (k 0).val < j
    · refine (View.read_slice_write_of_not_mem _ _ _ _ fun hm => ?_).trans (hg k hkj)
      obtain ⟨z, -, rfl⟩ := Finset.mem_map.mp hm
      have : j + 1 * (z 0).val < j := hkj
      omega
    · obtain ⟨z, rfl⟩ : ∃ z : (Mat w 32).Idx, k = (Rect.unit (s := S2000x32) ![j, 0] (Mat w 32).size (out_inb j w hj)).emb z := by
        refine ⟨ix2 ⟨(k 0).val - j, by omega⟩ (k 1), ?_⟩
        funext a; apply Fin.ext
        fin_cases a
        · show (k 0).val = j + 1 * ((k 0).val - j); omega
        · show (k 1).val = 0 + 1 * (k 1).val; omega
      rw [hO]
      exact View.read_slice_write_emb _ _ _ (Finset.mem_univ _)

end Wp

end Cert.KernelIdeal.Bi
-- ==== Proof.KernelIdeal.Body.lean ====
/- The body after its copies, whole: the block of the result it writes, in terms of the weights, the ids block and the
   landed slot. -/
module

public import proofs.«01_k».proof.Proof.KernelIdeal.Tiles

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's algebra: the pipeline library's beside the transfers' counters. -/
local notation "𝕄" => MT nD τ sig Unit (Elt F) ℕ (Pipeline.UD sig nD τ) ℕ

/-! ## What a grid point leaves in its block of the result -/

section Value
variable (i : grid0.Coords) (W : Wts F) (ids : Vec F S1x8x2000 .i32) (Y : S2x8x2000x128.Idx → Elt F .f32)

/-- The block of the result: seven tiles of 256 rows, then one of 208. -/
def outB (k : S2000x32.Idx) : Elt F .f32 :=
  if h : (k 0).val < 1792 then
    tileOut (tileV i W ids Y 256 (256 * ((k 0).val / 256)) (by omega) 8 le_rfl) (ix2 (⟨(k 0).val % 256, Nat.mod_lt _ (by decide)⟩ : Fin 256) (k 1))
  else tileOut (tileV i W ids Y 208 1792 (by decide) 8 le_rfl) (ix2 (⟨(k 0).val - 1792, by have : (k 0).val < 2000 := (k 0).isLt; omega⟩ : Fin 208) (k 1))

theorem tileOut_congr {w : ℕ} {j j' : ℕ} (e : j = j') (hj : j + w ≤ 2000) (hj' : j' + w ≤ 2000) {x x' : (Mat w 32).Idx} (ex : x = x') :
    tileOut (tileV i W ids Y w j hj 8 le_rfl) x = tileOut (tileV i W ids Y w j' hj' 8 le_rfl) x' := by
  subst e; subst ex; rfl

theorem outB_wide (j : ℕ) (hd : j % 256 = 0) (hj : j + 256 ≤ 1792) (k : (Mat 256 32).Idx) :
    outB i W ids Y ((Rect.unit (s := S2000x32) ![j, 0] (Mat 256 32).size (out_inb j 256 (by omega))).emb k)
      = tileOut (tileV i W ids Y 256 j (by omega) 8 le_rfl) k := by
  have hk : (k 0).val < 256 := (k 0).isLt
  have e0 : (((Rect.unit (s := S2000x32) ![j, 0] (Mat 256 32).size (out_inb j 256 (by omega))).emb k) 0).val = j + (k 0).val := by
    show j + 1 * (k 0).val = _; omega
  unfold outB
  rw [dif_pos (by omega)]
  refine tileOut_congr i W ids Y (by omega) _ _ ?_
  funext a; apply Fin.ext
  fin_cases a
  · show _ % 256 = (k 0).val; omega
  · show 0 + 1 * (k 1).val = (k 1).val; omega

theorem outB_last (k : (Mat 208 32).Idx) :
    outB i W ids Y ((Rect.unit (s := S2000x32) ![1792, 0] (Mat 208 32).size (out_inb 1792 208 (by decide))).emb k)
      = tileOut (tileV i W ids Y 208 1792 (by decide) 8 le_rfl) k := by
  have hk : (k 0).val < 208 := (k 0).isLt
  have e0 : (((Rect.unit (s := S2000x32) ![1792, 0] (Mat 208 32).size (out_inb 1792 208 (by decide))).emb k) 0).val = 1792 + (k 0).val := by
    show 1792 + 1 * (k 0).val = _; omega
  unfold outB
  rw [dif_neg (by omega)]
  refine tileOut_congr i W ids Y rfl _ _ ?_
  funext a; apply Fin.ext
  fin_cases a
  · show _ - 1792 = (k 0).val; omega
  · show 0 + 1 * (k 1).val = (k 1).val; omega

end Value

/-- The weights as the body uses them. -/
def wts (x3 : Vec F S192x128 .bf16) (x4 : Vec F S192x32 .bf16) (x5 : Vec F S192x1 .f32) (x6 : Vec F S64x1 .f32) : Wts F :=
  ⟨shapeCast S192x128 x3 shapeCasts_S192x128_S192x128, shapeCast S192x32 x4 shapeCasts_S192x32_S192x32,
    shapeCast S192x1 x5 shapeCasts_S192x1_S192x1, shapeCast S64x1 x6 shapeCasts_S64x1_S64x1⟩

section Wp
variable (c : Dev nD) (X : S100000x8x128.Idx → Elt F .f32) (b : Fin 50)
local notation "wpc" => wp frame (wpE (defs₀ (F := F)) Variants.none (c : Thread nD τ) none) Set.univ
variable (i : grid0.Coords)

/-! ## The groups of tiles -/

section Group
variable (W : Wts F) (ids : Vec F S1x8x2000 .i32) (arg7 : Memref sig .tc .vmem S2000x32 .f32) (O : S2000x32.Idx → Elt F .f32)

/-- A tile's stores agree with `O`. -/
def agrees (w j : ℕ) (hj : j + w ≤ 2000) : Prop :=
  ∀ k : (Mat w 32).Idx, O ((Rect.unit (s := S2000x32) ![j, 0] (Mat w 32).size (out_inb j w hj)).emb k) = tileOut (tileV i W ids (lbuf X b) w j hj 8 le_rfl) k

theorem wp_group (w : ℕ) (hw : 0 < w) (j : ℕ) (hj : j + 768 + w ≤ 2000)
    (h0 : agrees X b i W ids O 256 j (by omega)) (h1 : agrees X b i W ids O 256 (j + 256) (by omega))
    (h2 : agrees X b i W ids O 256 (j + 512) (by omega)) (h3 : agrees X b i W ids O w (j + 768) hj) :
    iprop(slotPts c X b (sl (i 0).val) ∗ doneTo c arg7 O j) ⊢ wpc (group i W ids scM arg7 w hw j hj)
      (fun _ => iprop(slotPts c X b (sl (i 0).val) ∗ doneTo c arg7 O (j + 768 + w))) := by
  unfold group
  rw [wp_bind]
  refine wp_beside c (wp_rows c X b i W ids w hw j hj 8 le_rfl) fun q => ?_
  iintro ⟨⟨%e, Hs⟩, Hd⟩
  subst e
  have hst : doneTo c arg7 O j ⊢ wpc (do
      st arg7 256 (by decide) j (by omega) (quadV i W ids (lbuf X b) w j hj 8 le_rfl).p0
      st arg7 256 (by decide) (j + 256) (by omega) (quadV i W ids (lbuf X b) w j hj 8 le_rfl).p1
      st arg7 256 (by decide) (j + 512) (by omega) (quadV i W ids (lbuf X b) w j hj 8 le_rfl).p2
      st arg7 w hw (j + 768) hj (quadV i W ids (lbuf X b) w j hj 8 le_rfl).p3 : P F PUnit) (fun _ => doneTo c arg7 O (j + 768 + w)) := by
    rw [wp_bind]
    refine (wp_st c arg7 O 256 _ j _ _ h0).trans (wp_mono _ _ _ fun _ => ?_)
    rw [wp_bind]
    refine (wp_st c arg7 O 256 _ (j + 256) _ _ h1).trans (wp_mono _ _ _ fun _ => ?_)
    rw [wp_bind]
    refine (wp_st c arg7 O 256 _ (j + 512) _ _ h2).trans (wp_mono _ _ _ fun _ => ?_)
    exact wp_st c arg7 O w _ (j + 768) _ _ h3
  iapply (wp_beside c (S := slotPts c X b (sl (i 0).val)) hst fun _ => ?_)
  rotate_left
  · isplitl [Hd]; · iexact Hd
    iexact Hs
  iintro ⟨Hd, Hs⟩
  isplitl [Hs]; · iexact Hs
  iexact Hd

end Group

/-! ## The body after its copies -/

/-- A load of a whole buffer, then what follows. -/
theorem wp_whole {S : Shape} {e : EltTy} (m : Memref sig .tc .vmem S e) (q : PosShare TreeShare) (x : S.Idx → Elt F e)
    {off : Fin S.rank → ℕ} (inb : ∀ a, off a + S.size a ≤ S.size a) (hl) {β : Type} (k : Vec F S e → P F β) {Q : β → sProp 𝕄} :
    owns (c : Thread nD τ) m q x ⊢ iprop((owns (c : Thread nD τ) m q x -∗ wpc (k x) Q)
      -∗ wpc ((Prog.lift (.load m (Rect.unit (s := S) off S.size inb).toLoadRect hl) : P F (Vec F S e)) >>= k) Q) := by
  unfold owns
  iintro ⟨%f, %hf, H⟩ Hk
  subst hf
  iapply (wp_load_rect Variants.none (c : Thread nD τ) none Set.univ (m := m) (r := Rect.unit (s := S) off S.size inb) (S := m.view.set) (View.set_slice_subset _ _)) $$ H
  iintro H
  irw [show (m.access (Rect.unit (s := S) off S.size inb)).read (Elt F) f = m.view.read (Elt F) f from View.readAt_full m.view f inb]
  iapply Hk
  iexists f
  isplitr
  · ipureintro; rfl
  iexact H

variable (arg2 : Memref sig .tc .vmem S1x8x2000 .i32) (arg3 : Memref sig .tc .vmem S192x128 .bf16)
    (arg4 : Memref sig .tc .vmem S192x32 .bf16) (arg5 : Memref sig .tc .vmem S192x1 .f32) (arg6 : Memref sig .tc .vmem S64x1 .f32)
    (arg7 : Memref sig .tc .vmem S2000x32 .f32)
    (x2 : Vec F S1x8x2000 .i32) (x3 : Vec F S192x128 .bf16) (x4 : Vec F S192x32 .bf16) (x5 : Vec F S192x1 .f32) (x6 : Vec F S64x1 .f32)

/-- Both groups fill the block. -/
theorem wp_groups : iprop(slotPts c X b (sl (i 0).val) ∗ doneTo c arg7 (outB i (wts x3 x4 x5 x6) x2 (lbuf X b)) 0)
    ⊢ wpc (do
      group i (wts x3 x4 x5 x6) x2 scM arg7 256 (by decide) 0 (by decide)
      group i (wts x3 x4 x5 x6) x2 scM arg7 208 (by decide) 1024 (by decide) : P F PUnit)
      (fun _ => iprop(slotPts c X b (sl (i 0).val) ∗ doneTo c arg7 (outB i (wts x3 x4 x5 x6) x2 (lbuf X b)) 2000)) := by
  rw [wp_bind]
  refine (wp_group c X b i _ _ arg7 _ 256 _ 0 _ (outB_wide _ _ _ _ 0 rfl (by decide)) (outB_wide _ _ _ _ 256 rfl (by decide))
    (outB_wide _ _ _ _ 512 rfl (by decide)) (outB_wide _ _ _ _ 768 rfl (by decide))).trans (wp_mono _ _ _ fun _ => ?_)
  exact wp_group c X b i _ _ arg7 _ 208 _ 1024 _ (outB_wide _ _ _ _ 1024 rfl (by decide)) (outB_wide _ _ _ _ 1280 rfl (by decide))
    (outB_wide _ _ _ _ 1536 rfl (by decide)) (outB_last _ _ _ _)

theorem wp_compute :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ slotPts c X b (sl (i 0).val))
      ⊢ wpc (compute i arg2 arg3 arg4 arg5 arg6 arg7 scM) (fun _ =>
        iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare (outB i (wts x3 x4 x5 x6) x2 (lbuf X b)) ∗ slotPts c X b (sl (i 0).val))) := by
  unfold compute
  iintro ⟨H2, H3, H4, H5, H6, ⟨%d, H7⟩, Hs⟩
  iapply (wp_whole c arg3 fullShare x3 _ _ _) $$ H3
  iintro H3
  iapply (wp_whole c arg4 fullShare x4 _ _ _) $$ H4
  iintro H4
  iapply (wp_whole c arg5 fullShare x5 _ _ _) $$ H5
  iintro H5
  iapply (wp_whole c arg6 fullShare x6 _ _ _) $$ H6
  iintro H6
  iapply (wp_whole c arg2 fullShare x2 _ _ _) $$ H2
  iintro H2
  iapply (wp_beside c (S := iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6)) (wp_groups c X b i arg7 x2 x3 x4 x5 x6) fun _ => ?_)
  rotate_left
  · isplitl [H7 Hs]
    · isplitl [Hs]; · iexact Hs
      unfold owns doneTo
      icases H7 with ⟨%g, -, H7⟩
      iexists g
      isplitr
      · ipureintro; intro k hk; exact absurd hk (Nat.not_lt_zero _)
      iexact H7
    isplitl [H2]; · iexact H2
    isplitl [H3]; · iexact H3
    isplitl [H4]; · iexact H4
    isplitl [H5]; · iexact H5
    iexact H6
  iintro ⟨⟨Hs, H7⟩, H2, H3, H4, H5, H6⟩
  isplitl [H2]; · iexact H2
  isplitl [H3]; · iexact H3
  isplitl [H4]; · iexact H4
  isplitl [H5]; · iexact H5
  isplitl [H6]; · iexact H6
  isplitl [H7]
  · unfold doneTo owns
    icases H7 with ⟨%g, %hg', H7⟩
    iexists g
    isplitr
    · ipureintro; funext k; exact hg' k (k 0).isLt
    iexact H7
  iexact Hs

end Wp

end Cert.KernelIdeal.Bi
-- ==== Proof.KernelIdeal.Run.lean ====
/- The kernel's run: the proof data, the body's obligation at every grid point, and the launch. -/
module

public import proofs.«01_k».proof.Proof.KernelIdeal.Body
public import proofs.«01_k».proof.Proof.Gen.KernelIdeal.Frame

@[expose] public section

set_option maxRecDepth 16384

noncomputable section

namespace Cert.KernelIdeal.Bi

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Pipeline (Dat BodyObligation)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The node features, as the region finds them. -/
abbrev feats (c : Dev nD) : S100000x8x128.Idx → Elt F .f32 := V m c main_arg0

/-- The weights, as the region finds them staged at a grid point. -/
def wtsAt (c : Dev nD) (t : Fin cfg0.N) : Wts F := wts (iblk m c 1 t) (iblk m c 2 t) (iblk m c 3 t) (iblk m c 4 t)

/-- What a grid point leaves in its block of the result. -/
def outAt (c : Dev nD) (t : Fin cfg0.N) : S2000x32.Idx → Elt F .f32 :=
  outB (grid0.coords t) (wtsAt m c t) (iblk m c 0 t) (lbuf (feats m c) (blkNo (grid0.coords t)))

/-- Before grid point `n`: its slot on its way or free, the other slot free, the generator register. -/
def between (c : Dev nD) (n : ℕ) : sProp 𝕄 := iprop(cur c (feats m c) n ∗ freeS c (feats m c) (sl (n + 1)) ∗ (∃ r, prngReg c r))

/-- The proof data: the arrays as the region finds them; each input block stays; the result's block is `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := between m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; rfl) t d).trans
    (by unfold Dat.fetched Dat.blockOf iblk; rfl)
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The grid point's block is its number. -/
theorem coords_val (t : Fin cfg0.N) : (grid0.coords t 0).val = t.val := by
  have : t.val < 50 := t.isLt.trans_eq N_0
  show t.val / 1 % 50 = t.val
  omega

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = between m c (grid0.coords t 0).val from congrArg (between m c) (coords_val t).symm,
    show (dats m 0 c).Φ t.succ = between m c ((grid0.coords t 0).val + 1) from congrArg (fun n => between m c (n + 1)) (coords_val t).symm,
    after_0, after_1, after_2, after_3, after_4, after_5]
  unfold Dat.owesAt Pipeline.owesWithin
  rw [show (dats m 0 c).owed t.castSucc = 0 from rfl, show (dats m 0 c).owed t.succ = 0 from rfl, body_copies, wp_bind]
  simp only [before_0, before_1, before_2, before_3, before_4]
  unfold between
  iintro ⟨⟨Hc, Hf, Hg⟩, ⟨%W, -, HW⟩, ⟨%d0, H0⟩, ⟨%d1, H1⟩, ⟨%d2, H2⟩, ⟨%d3, H3⟩, ⟨%d4, H4⟩, ⟨%d5, H5⟩⟩
  iapply (wp_beside c (S := iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ (∃ d, owns (c : Thread nD τ) (st0_5 t) fullShare d) ∗ (∃ r, prngReg c r)))
    (wp_copies c (feats m c) (grid0.coords t)) fun _ => ?_)
  rotate_left
  · isplitl [Hc Hf HW]
    · isplitl [Hc]; · iexact Hc
      isplitl [Hf]; · iexact Hf
      unfold waited
      iexists W; iexact HW
    isplitl [H0]; · iexact H0
    isplitl [H1]; · iexact H1
    isplitl [H2]; · iexact H2
    isplitl [H3]; · iexact H3
    isplitl [H4]; · iexact H4
    isplitl [H5]; · iexists _; iexact H5
    iexact Hg
  rw [landS_eq]
  iintro ⟨⟨⟨Hs, Hk⟩, Hn, HW⟩, H0, H1, H2, H3, H4, H5, Hg⟩
  iapply (wp_beside c (S := iprop((bigSep Finset.univ fun u : Fin 8 => iprop(semVal ((c : Thread nD τ), .dma (cell (sl (grid0.coords t 0).val) u)) 0 ∗ xShare c (feats m c) (sl (grid0.coords t 0).val) u))
      ∗ cur c (feats m c) ((grid0.coords t 0).val + 1) ∗ waited c ∗ (∃ r, prngReg c r)))
    (wp_compute c (feats m c) (blkNo (grid0.coords t)) (grid0.coords t) (st0_0 t) (st0_1 t) (st0_2 t) (st0_3 t) (st0_4 t) (st0_5 t)
      (iblk m c 0 t) (iblk m c 1 t) (iblk m c 2 t) (iblk m c 3 t) (iblk m c 4 t)) fun _ => ?_)
  rotate_left
  · isplitl [Hs H0 H1 H2 H3 H4 H5]
    · isplitl [H0]; · iexact H0
      isplitl [H1]; · iexact H1
      isplitl [H2]; · iexact H2
      isplitl [H3]; · iexact H3
      isplitl [H4]; · iexact H4
      isplitl [H5]; · iexact H5
      iexact Hs
    isplitl [Hk]; · iexact Hk
    isplitl [Hn]; · iexact Hn
    isplitl [HW]; · iexact HW
    iexact Hg
  iintro ⟨⟨H0, H1, H2, H3, H4, H5, Hs⟩, Hk, Hn, HW, Hg⟩
  isplitl [Hs Hk Hn Hg]
  · isplitl [Hn]; · iexact Hn
    isplitl [Hs Hk]
    · irw [sl_add_two]
      iapply (landS_freeS c (feats m c) (blkNo (grid0.coords t)))
      irw [landS_eq]
      isplitl [Hs]; · iexact Hs
      iexact Hk
    iexact Hg
  isplitl [HW]
  · unfold waited
    icases HW with ⟨%W', HW'⟩
    iexists W'
    isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem main_to_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem region_in (c : Dev nD) : Pipeline.ΦD osem spec0 own (V m) c ⊢ (dats m 0 c).Φ 0 := by
  refine (open_slots c (V m)).trans ?_
  show _ ⊢ between m c 0
  unfold between
  rw [show cur c (feats m c) 0 = freeS c (feats m c) 0 from dif_neg (by omega)]
  iintro ⟨⟨H0, H1⟩, Hg⟩
  isplitl [H0]; · iexact H0
  isplitl [H1]; · iexact H1
  iexact Hg

theorem region_out (c : Dev nD) : (dats m 0 c).Φ (Fin.last cfg0.N) ⊢ Pipeline.ΦD osem spec0 own (V m) c := by
  refine BIBase.Entails.trans ?_ (close_slots c (V m))
  show between m c cfg0.N ⊢ _
  rw [show cfg0.N = 50 from N_0]
  unfold between
  rw [show cur c (feats m c) 50 = freeS c (feats m c) 0 from dif_neg (by omega)]
  iintro ⟨H0, H1, Hg⟩
  isplitl [H0 H1]
  · isplitl [H0]; · iexact H0
    iexact H1
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts own own_sub m ρ main
    (hbody := fun c => (body_obligation m c).loose) (hshare := fun c => (dats m 0 c).share_full fun _ => rfl)
    (howed := fun _ _ => rfl) (V := V m) (hmain := main_to_region m Variants.none) (hA := A_eq m)
    (hin := region_in m) (hout := region_out m)

/-- The kernel terminates without a fault, its arguments end as they began, and every semaphore ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end Cert.KernelIdeal.Bi
-- ==== Proof.Value.Cell.lean ====
/- One unit of one step of the recurrence over the extended reals, in two spellings: the textbook gates, and the
   spelling through hyperbolic tangents of halved arguments. With a finite recurrent part of the candidate they agree. -/
module

public import Idealize.ShloMosaic.PureOps.Ideal

@[expose] public section

noncomputable section

namespace Cert.Cell

open Idealize.ShloMosaic

/-- One half, as an extended real. -/
abbrev hf : EReal := ((1 / 2 : ℝ) : EReal)

theorem hf_nonneg : (0 : EReal) ≤ hf := by
  show ((0 : ℝ) : EReal) ≤ _
  exact EReal.coe_le_coe_iff.mpr (by norm_num)

theorem hf_ne_top : hf ≠ ⊤ := EReal.coe_ne_top _

/-- Halving distributes over every sum of extended reals. -/
theorem hf_add (a b : EReal) : hf * (a + b) = hf * a + hf * b :=
  EReal.left_distrib_of_nonneg_of_ne_top hf_nonneg hf_ne_top a b

theorem hf_sum {ι : Type} (s : Finset ι) (f : ι → EReal) : hf * ∑ i ∈ s, f i = ∑ i ∈ s, hf * f i := by
  classical
  induction s using Finset.induction_on with
  | empty => simp
  | insert a s ha ih => rw [Finset.sum_insert ha, Finset.sum_insert ha, hf_add, ih]

theorem hf_top : hf * ⊤ = ⊤ := EReal.coe_mul_top_of_pos (by norm_num)
theorem hf_bot : hf * ⊥ = ⊥ := EReal.coe_mul_bot_of_pos (by norm_num)

/-- The hyperbolic tangent takes real values everywhere. -/
theorem tanh_real (u : EReal) : ∃ r : ℝ, Ideal.tanh u = r := by
  induction u with
  | bot => exact ⟨-1, by simp⟩
  | top => exact ⟨1, by simp⟩
  | coe x => exact ⟨Real.tanh x, rfl⟩

/-- The logistic function of a real, through the tangent of its half. -/
theorem logistic_real (x : ℝ) : (1 + Real.exp (-x))⁻¹ = 1 / 2 * Real.tanh (1 / 2 * x) + 1 / 2 := by
  have hp := Real.exp_pos (1 / 2 * x)
  have e : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, e, Real.exp_neg]
  field_simp
  ring

/-- The logistic function, through the tangent of the half of its argument. -/
theorem logistic_tanh (u : EReal) {t : ℝ} (ht : Ideal.tanh (hf * u) = t) : Ideal.logistic u = ((1 / 2 * t + 1 / 2 : ℝ) : EReal) := by
  induction u with
  | bot =>
    rw [hf_bot, Ideal.tanh_bot] at ht
    have : t = -1 := EReal.coe_injective (ht.symm.trans (by simp))
    subst this
    rw [Ideal.logistic_bot]; norm_num
  | top =>
    rw [hf_top, Ideal.tanh_top] at ht
    have : t = 1 := by exact_mod_cast ht.symm
    subst this
    rw [Ideal.logistic_top]; norm_num
  | coe x =>
    rw [← EReal.coe_mul, Ideal.tanh_coe] at ht
    have : t = Real.tanh (1 / 2 * x) := by exact_mod_cast ht.symm
    subst this
    rw [Ideal.logistic_coe, logistic_real]

/-- A unit by the textbook: the gates' arguments `ar`, `az`, the candidate's input part `xn` and recurrent part `hn`. -/
def gate (ar az xn hn h : EReal) : EReal :=
  (1 - Ideal.logistic az) * Ideal.tanh (xn + Ideal.logistic ar * hn) + Ideal.logistic az * h

/-- A unit through tangents: the halved gates' arguments `br`, `bz`, and the halved recurrent part `hm`. -/
def gateT (br bz xn hm h : EReal) : EReal :=
  hf * (h - Ideal.tanh (xn + hm + Ideal.tanh br * hm)) + Ideal.tanh (xn + hm + Ideal.tanh br * hm)
    + hf * Ideal.tanh bz * (h - Ideal.tanh (xn + hm + Ideal.tanh br * hm))

/-- The two spellings of a unit agree, and the new state is a real. -/
theorem gateT_eq (ar az xn : EReal) (hn h : ℝ) :
    gateT (hf * ar) (hf * az) xn (hf * (hn : EReal)) h = gate ar az xn hn h ∧ ∃ r : ℝ, gate ar az xn hn h = r := by
  obtain ⟨tr, htr⟩ := tanh_real (hf * ar)
  obtain ⟨tz, htz⟩ := tanh_real (hf * az)
  have en : xn + hf * (hn : EReal) + Ideal.tanh (hf * ar) * (hf * (hn : EReal)) = xn + Ideal.logistic ar * hn := by
    rw [logistic_tanh ar htr, htr, ← EReal.coe_mul, ← EReal.coe_mul, ← EReal.coe_mul, add_assoc, ← EReal.coe_add]
    congr 2
    ring
  obtain ⟨n, hn'⟩ := tanh_real (xn + Ideal.logistic ar * hn)
  have eg : gate ar az xn hn h = (((1 - (1 / 2 * tz + 1 / 2)) * n + (1 / 2 * tz + 1 / 2) * h : ℝ) : EReal) := by
    unfold gate
    rw [hn', logistic_tanh az htz, ← EReal.coe_one, ← EReal.coe_sub, ← EReal.coe_mul, ← EReal.coe_mul, ← EReal.coe_add]
  refine ⟨?_, _, eg⟩
  rw [eg]
  unfold gateT
  rw [en, hn', htz, ← EReal.coe_sub, ← EReal.coe_mul, ← EReal.coe_mul, ← EReal.coe_mul, ← EReal.coe_add, ← EReal.coe_add]
  congr 1
  ring

/-- A linear form of reals with real coefficients is a real. -/
theorem sum_real {ι : Type} [Fintype ι] (a b : ι → EReal) (ha : ∀ i, ∃ r : ℝ, a i = r) (hb : ∀ i, ∃ r : ℝ, b i = r) :
    ∃ r : ℝ, ∑ i, a i * b i = r := by
  choose a' ha using ha
  choose b' hb using hb
  refine ⟨∑ i, a' i * b' i, ?_⟩
  simp only [ha, hb, ← EReal.coe_mul]
  exact (map_sum (⟨⟨Real.toEReal, EReal.coe_zero⟩, EReal.coe_add⟩ : ℝ →+ EReal) _ _).symm

/-- The weights of one direction. -/
structure Wt where
  /-- the input weights -/
  wi : Fin 96 → Fin 128 → EReal
  /-- the recurrent weights -/
  wh : Fin 96 → Fin 32 → EReal
  /-- the input bias -/
  bi : Fin 96 → EReal
  /-- the recurrent bias -/
  bh : Fin 96 → EReal

/-- The three gates' rows of the weights: reset, update, candidate. -/
def gr (c : Fin 32) : Fin 96 := ⟨c.val, by omega⟩
def gz (c : Fin 32) : Fin 96 := ⟨32 + c.val, by omega⟩
def gn (c : Fin 32) : Fin 96 := ⟨64 + c.val, by omega⟩

/-- The input part of a gate's argument. -/
def Wt.px (W : Wt) (x : Fin 128 → EReal) (g : Fin 96) : EReal := (∑ k, x k * W.wi g k) + W.bi g
/-- The recurrent part of a gate's argument. -/
def Wt.ph (W : Wt) (h : Fin 32 → EReal) (g : Fin 96) : EReal := (∑ k, h k * W.wh g k) + W.bh g

/-- A textbook step of one node: the new state of every unit. -/
def cell (W : Wt) (x : Fin 128 → EReal) (h : Fin 32 → EReal) (c : Fin 32) : EReal :=
  gate (W.px x (gr c) + W.ph h (gr c)) (W.px x (gz c) + W.ph h (gz c)) (W.px x (gn c)) (W.ph h (gn c)) (h c)

/-- The halved argument of a reset or update gate, from halved weights and halved biases. -/
def Wt.qa (W : Wt) (x : Fin 128 → EReal) (h : Fin 32 → EReal) (g : Fin 96) : EReal :=
  ((∑ k, W.wi g k * hf * x k) + hf * (W.bi g + W.bh g)) + ∑ k, W.wh g k * hf * h k

/-- The step of one node through tangents. -/
def cellT (W : Wt) (x : Fin 128 → EReal) (h : Fin 32 → EReal) (c : Fin 32) : EReal :=
  gateT (W.qa x h (gr c)) (W.qa x h (gz c)) ((∑ k, W.wi (gn c) k * x k) + W.bi (gn c))
    (hf * (∑ k, W.wh (gn c) k * h k) + hf * W.bh (gn c)) (h c)

theorem Wt.qa_eq (W : Wt) (x : Fin 128 → EReal) (h : Fin 32 → EReal) (g : Fin 96) : W.qa x h g = hf * (W.px x g + W.ph h g) := by
  have e1 : ∑ k, W.wi g k * hf * x k = hf * ∑ k, x k * W.wi g k := by
    rw [hf_sum]; exact Finset.sum_congr rfl fun k _ => by rw [mul_comm (W.wi g k) hf, mul_assoc, mul_comm (x k)]
  have e2 : ∑ k, W.wh g k * hf * h k = hf * ∑ k, h k * W.wh g k := by
    rw [hf_sum]; exact Finset.sum_congr rfl fun k _ => by rw [mul_comm (W.wh g k) hf, mul_assoc, mul_comm (h k)]
  unfold Wt.qa Wt.px Wt.ph
  rw [e1, e2, hf_add, hf_add, hf_add, hf_add]
  ac_rfl

/-- The candidate's recurrent rows are finite. -/
def Wt.Fin (W : Wt) : Prop := ∀ c : _root_.Fin 32, (∀ k, ∃ r : ℝ, W.wh (gn c) k = r) ∧ ∃ r : ℝ, W.bh (gn c) = r

/-- From a finite state the two steps agree, and the new state is finite. -/
theorem cellT_eq (W : Wt) (hW : W.Fin) (x : Fin 128 → EReal) (h : Fin 32 → EReal) (hh : ∀ k, ∃ r : ℝ, h k = r) (c : Fin 32) :
    cellT W x h c = cell W x h c ∧ ∃ r : ℝ, cell W x h c = r := by
  obtain ⟨hw, b, hb⟩ := hW c
  obtain ⟨s, hs⟩ := sum_real h (W.wh (gn c)) hh hw
  obtain ⟨y, hy⟩ := hh c
  have e : W.ph h (gn c) = ((s + b : ℝ) : EReal) := by unfold Wt.ph; rw [hs, hb, ← EReal.coe_add]
  have e' : hf * (∑ k, W.wh (gn c) k * h k) + hf * W.bh (gn c) = hf * ((s + b : ℝ) : EReal) := by
    rw [← hf_add, ← e]; unfold Wt.ph
    simp only [mul_comm]
  have ex : (∑ k, W.wi (gn c) k * x k) + W.bi (gn c) = W.px x (gn c) := by
    unfold Wt.px; simp only [mul_comm]
  unfold cell cellT
  rw [W.qa_eq, W.qa_eq, e', ex, e, hy]
  exact gateT_eq _ _ _ _ _

/-! ## Eight steps with a length -/

/-- The forward pass after `n` times: a time at or past the length leaves the state. -/
def fwd {σ : Type} (f : ℕ → σ → σ) (len : ℕ) (z : σ) : ℕ → σ
  | 0 => z
  | n + 1 => if n < len then f n (fwd f len z n) else fwd f len z n

/-- The backward pass over times `7, 6, …`: a time at or past the length leaves the state. -/
def bwd {σ : Type} (f : ℕ → σ → σ) (len : ℕ) (z : σ) : ℕ → σ
  | 0 => z
  | n + 1 => if 7 - n < len then f (7 - n) (bwd f len z n) else bwd f len z n

/-- The backward pass is a forward pass over the row reversed within its length. -/
theorem bwd_eq {σ : Type} (f : ℕ → σ → σ) (len : ℕ) (hl : len ≤ 8) (z : σ) :
    bwd f len z 8 = fwd (fun n => f (len - 1 - n)) len z 8 := by
  interval_cases len <;> simp [bwd, fwd]

end Cert.Cell
-- ==== Proof.Value.RefStep.lean ====
/- One time step of the reference, written once for every time, and the chain of its states in each direction. -/
module

public import proofs.«01_k».proof.Proof.Gen.ReferenceIdeal.Read
public import proofs.«01_k».proof.Proof.Value.Cell

@[expose] public section

set_option maxRecDepth 16384

noncomputable section

namespace Cert.ReferenceIdeal.Rs

open Cert.ReferenceIdeal Cert.ReferenceIdeal.Gen Cert.ReferenceIdeal.Read Idealize.ShloMosaic Idealize.ShloMosaic.StableHlo
open Idealize.ShloMosaic.ValueIdx

variable {F : FTy → Type} [FloatOps F]

theorem time_slices (t : Nat) (ht : t < 8) : S100000x8x96.Slices ![0, t, 0] S100000x1x96 :=
  ⟨rfl, fun a => by fin_cases a <;> simp; omega⟩

/-- The constant one in every unit of every node. -/
def ones : FVec F S100000x32 .f32 := broadcastInDim S100000x32 ![] bcast_S_S100000x32 (constant S_ .f32 0x3F800000#32)

/-- The logistic function as the reference spells it. -/
def sigm (u : FVec F S100000x32 .f32) : FVec F S100000x32 .f32 := Host.divf ones (addf ones (Host.exp (Host.negf u)))

/-- The recurrent part of the gates' arguments. -/
def rec (w : FVec F S96x32 .f32) (b : FVec F S96 .f32) (h : FVec F S100000x32 .f32) : FVec F S100000x96 .f32 :=
  addf (Host.dotGeneral dot_S100000x32_S32x96_S100000x96_1_0_0_1_n_n none h (transpose S32x96 [1, 0] w transposes_S96x32_S32x96_1_0))
    (broadcastInDim S100000x96 ![0, 1] bcast_S1x96_S100000x96_0_1 (broadcastInDim S1x96 ![1] bcast_S96_S1x96_1 b))

/-- The input part of the gates' arguments at time `t`. -/
def inp (t : Nat) (ht : t < 8) (xg : FVec F S100000x8x96 .f32) : FVec F S100000x96 .f32 :=
  shapeCast _ (extractStridedSlice S100000x1x96 ![0, t, 0] xg (time_slices t ht)) shapeCasts_S100000x1x96_S100000x96

/-- The step's new state before the length is looked at. -/
def upd (gx gh : FVec F S100000x96 .f32) (h : FVec F S100000x32 .f32) : FVec F S100000x32 .f32 :=
  addf
    (mulf (subf ones (sigm (addf (extractStridedSlice S100000x32 ![0, 32] gx slices_S100000x96_S100000x32_0_32) (extractStridedSlice S100000x32 ![0, 32] gh slices_S100000x96_S100000x32_0_32))))
      (Host.tanh (addf (extractStridedSlice S100000x32 ![0, 64] gx slices_S100000x96_S100000x32_0_64)
        (mulf (sigm (addf (extractStridedSlice S100000x32 ![0, 0] gx slices_S100000x96_S100000x32_0_0) (extractStridedSlice S100000x32 ![0, 0] gh slices_S100000x96_S100000x32_0_0)))
          (extractStridedSlice S100000x32 ![0, 64] gh slices_S100000x96_S100000x32_0_64)))))
    (mulf (sigm (addf (extractStridedSlice S100000x32 ![0, 32] gx slices_S100000x96_S100000x32_0_32) (extractStridedSlice S100000x32 ![0, 32] gh slices_S100000x96_S100000x32_0_32))) h)

/-- Where time `t` lies within a node's length. -/
def within (t : Nat) (len : IVec S100000 32) : IVec S100000x32 1 :=
  broadcastInDim S100000x32 ![0, 1] bcast_S100000x1_S100000x32_0_1 (broadcastInDim S100000x1 ![0] bcast_S100000_S100000x1_0
    (cmpi .sgt len (broadcastInDim S100000 ![] bcast_S_S100000 (constantI S_ 32 (BitVec.ofNat 32 t)))))

/-- One time step of one direction. -/
def rstep (t : Nat) (ht : t < 8) (xg : FVec F S100000x8x96 .f32) (w : FVec F S96x32 .f32) (b : FVec F S96 .f32) (len : IVec S100000 32)
    (h : FVec F S100000x32 .f32) : FVec F S100000x32 .f32 :=
  select (within t len) (upd (inp t ht xg) (rec w b h) h) h

/-- The state after the first `n` times. -/
def states (xg : FVec F S100000x8x96 .f32) (w : FVec F S96x32 .f32) (b : FVec F S96 .f32) (len : IVec S100000 32) (h : FVec F S100000x32 .f32) :
    (n : Nat) → n ≤ 8 → FVec F S100000x32 .f32
  | 0, _ => h
  | n + 1, hn => rstep n (by omega) xg w b len (states xg w b len h n (by omega))

section
variable (x0 : (⟨S100000x8x128, .f32⟩ : BufTy).Contents (Elt F)) (x1 : (⟨S100000x8, .i32⟩ : BufTy).Contents (Elt F))
  (x2 : (⟨S96x128, .f32⟩ : BufTy).Contents (Elt F)) (x3 : (⟨S96x32, .f32⟩ : BufTy).Contents (Elt F)) (x4 x5 : (⟨S96, .f32⟩ : BufTy).Contents (Elt F))
  (x6 : (⟨S96x128, .f32⟩ : BufTy).Contents (Elt F)) (x7 : (⟨S96x32, .f32⟩ : BufTy).Contents (Elt F)) (x8 x9 : (⟨S96, .f32⟩ : BufTy).Contents (Elt F))

/-- The forward direction's last state is the chain of eight steps. -/
theorem fwd_states : val_main_v322 x0 x1 x2 x3 x4 x5 = states (val_main_v9 x0 x2 x4) x3 x5 (val_main_v5 (F := F) x1) val_main_v10 8 le_rfl := by
  have e1 : val_main_v49 x0 x1 x2 x3 x4 x5 = rstep 0 (by decide) (val_main_v9 x0 x2 x4) x3 x5 (val_main_v5 (F := F) x1) val_main_v10 := rfl
  have e2 : val_main_v88 x0 x1 x2 x3 x4 x5 = rstep 1 (by decide) (val_main_v9 x0 x2 x4) x3 x5 (val_main_v5 (F := F) x1) (val_main_v49 x0 x1 x2 x3 x4 x5) := rfl
  have e3 : val_main_v127 x0 x1 x2 x3 x4 x5 = rstep 2 (by decide) (val_main_v9 x0 x2 x4) x3 x5 (val_main_v5 (F := F) x1) (val_main_v88 x0 x1 x2 x3 x4 x5) := rfl
  have e4 : val_main_v166 x0 x1 x2 x3 x4 x5 = rstep 3 (by decide) (val_main_v9 x0 x2 x4) x3 x5 (val_main_v5 (F := F) x1) (val_main_v127 x0 x1 x2 x3 x4 x5) := rfl
  have e5 : val_main_v205 x0 x1 x2 x3 x4 x5 = rstep 4 (by decide) (val_main_v9 x0 x2 x4) x3 x5 (val_main_v5 (F := F) x1) (val_main_v166 x0 x1 x2 x3 x4 x5) := rfl
  have e6 : val_main_v244 x0 x1 x2 x3 x4 x5 = rstep 5 (by decide) (val_main_v9 x0 x2 x4) x3 x5 (val_main_v5 (F := F) x1) (val_main_v205 x0 x1 x2 x3 x4 x5) := rfl
  have e7 : val_main_v283 x0 x1 x2 x3 x4 x5 = rstep 6 (by decide) (val_main_v9 x0 x2 x4) x3 x5 (val_main_v5 (F := F) x1) (val_main_v244 x0 x1 x2 x3 x4 x5) := rfl
  have e8 : val_main_v322 x0 x1 x2 x3 x4 x5 = rstep 7 (by decide) (val_main_v9 x0 x2 x4) x3 x5 (val_main_v5 (F := F) x1) (val_main_v283 x0 x1 x2 x3 x4 x5) := rfl
  rw [e8, e7, e6, e5, e4, e3, e2, e1]
  rfl

/-- The backward direction's last state is the chain of eight steps over the reversed rows. -/
theorem bwd_states : val_main_v650 x0 x1 x6 x7 x8 x9 = states (val_main_v337 x0 x1 x6 x8) x7 x9 (val_main_v5 (F := F) x1) val_main_v338 8 le_rfl := by
  have e1 : val_main_v377 x0 x1 x6 x7 x8 x9 = rstep 0 (by decide) (val_main_v337 x0 x1 x6 x8) x7 x9 (val_main_v5 (F := F) x1) val_main_v338 := rfl
  have e2 : val_main_v416 x0 x1 x6 x7 x8 x9 = rstep 1 (by decide) (val_main_v337 x0 x1 x6 x8) x7 x9 (val_main_v5 (F := F) x1) (val_main_v377 x0 x1 x6 x7 x8 x9) := rfl
  have e3 : val_main_v455 x0 x1 x6 x7 x8 x9 = rstep 2 (by decide) (val_main_v337 x0 x1 x6 x8) x7 x9 (val_main_v5 (F := F) x1) (val_main_v416 x0 x1 x6 x7 x8 x9) := rfl
  have e4 : val_main_v494 x0 x1 x6 x7 x8 x9 = rstep 3 (by decide) (val_main_v337 x0 x1 x6 x8) x7 x9 (val_main_v5 (F := F) x1) (val_main_v455 x0 x1 x6 x7 x8 x9) := rfl
  have e5 : val_main_v533 x0 x1 x6 x7 x8 x9 = rstep 4 (by decide) (val_main_v337 x0 x1 x6 x8) x7 x9 (val_main_v5 (F := F) x1) (val_main_v494 x0 x1 x6 x7 x8 x9) := rfl
  have e6 : val_main_v572 x0 x1 x6 x7 x8 x9 = rstep 5 (by decide) (val_main_v337 x0 x1 x6 x8) x7 x9 (val_main_v5 (F := F) x1) (val_main_v533 x0 x1 x6 x7 x8 x9) := rfl
  have e7 : val_main_v611 x0 x1 x6 x7 x8 x9 = rstep 6 (by decide) (val_main_v337 x0 x1 x6 x8) x7 x9 (val_main_v5 (F := F) x1) (val_main_v572 x0 x1 x6 x7 x8 x9) := rfl
  have e8 : val_main_v650 x0 x1 x6 x7 x8 x9 = rstep 7 (by decide) (val_main_v337 x0 x1 x6 x8) x7 x9 (val_main_v5 (F := F) x1) (val_main_v611 x0 x1 x6 x7 x8 x9) := rfl
  rw [e8, e7, e6, e5, e4, e3, e2, e1]
  rfl

end

end Cert.ReferenceIdeal.Rs
-- ==== Proof.Value.RefRead.lean ====
/- The reference's steps read one unit of one node at a time: the textbook cell over the extended reals. -/
module

public import proofs.«01_k».proof.Proof.Value.RefStep

@[expose] public section

set_option maxRecDepth 16384

noncomputable section

namespace Cert.ReferenceIdeal.Rs

open Cert.ReferenceIdeal Cert.ReferenceIdeal.Gen Cert.ReferenceIdeal.Read Idealize.ShloMosaic Idealize.ShloMosaic.StableHlo
open Idealize.ShloMosaic.ValueIdx
open Cert.Cell (Wt cell gate gr gz gn)

/-- The weights of one direction, as the functions they are. -/
def wt (wi : FVec Ideal S96x128 .f32) (wh : FVec Ideal S96x32 .f32) (bi bh : FVec Ideal S96 .f32) : Wt where
  wi g k := wi (ix2 g k)
  wh g k := wh (ix2 g k)
  bi g := bi (ix1 g)
  bh g := bh (ix1 g)

theorem one_bits : (FloatOps.ofBits (F := Ideal) .f32 0x3F800000#32 : EReal) = 1 := by
  show Ideal.ofBits .f32 0x3F800000#32 = 1
  simp [Ideal.ofBits, Ideal.ieee, -EReal.coe_mul]; norm_num

theorem zero_bits : (FloatOps.ofBits (F := Ideal) .f32 0x00000000#32 : EReal) = 0 := by
  show Ideal.ofBits .f32 0x00000000#32 = 0
  simp [Ideal.ofBits, Ideal.ieee]

theorem ones_apply (i : S100000x32.Idx) : ones (F := Ideal) i = (1 : EReal) := by
  unfold ones
  rw [broadcastInDim_apply _ bcast_S_S100000x32 _ i (fun a => a.elim0) (fun a => a.elim0)]
  exact one_bits

theorem sigm_apply (u : FVec Ideal S100000x32 .f32) (i : S100000x32.Idx) : sigm u i = Ideal.logistic (u i) := by
  show Ideal.div (ones (F := Ideal) i) (ones (F := Ideal) i + Ideal.exp (-(u i))) = _
  rw [ones_apply]; rfl

/-- A gate's block of a matrix of gates' arguments, read at a unit. -/
theorem block_apply (o : Nat) (x : FVec Ideal S100000x96 .f32) (h : S100000x96.Slices ![0, o] S100000x32) (r : Fin 100000) (c : Fin 32) (g : Fin 96)
    (hg : g.val = o + c.val) : extractStridedSlice S100000x32 ![0, o] x h (ix2 r c) = x (ix2 r g) :=
  extractStridedSlice_apply ![0, o] x h _ _ fun a => by
    match a with
    | ⟨0, _⟩ => show r.val = 0 + r.val; omega
    | ⟨1, _⟩ => exact hg

/-- A step's new state before the length is looked at, from the gates' arguments. -/
theorem upd_apply (gx gh : FVec Ideal S100000x96 .f32) (h : FVec Ideal S100000x32 .f32) (r : Fin 100000) (c : Fin 32) :
    upd gx gh h (ix2 r c) = gate (gx (ix2 r (gr c)) + gh (ix2 r (gr c))) (gx (ix2 r (gz c)) + gh (ix2 r (gz c))) (gx (ix2 r (gn c))) (gh (ix2 r (gn c))) (h (ix2 r c)) := by
  show (ones (F := Ideal) (ix2 r c) - sigm (F := Ideal) _ (ix2 r c)) * Ideal.tanh (_ + sigm (F := Ideal) _ (ix2 r c) * _) + sigm (F := Ideal) _ (ix2 r c) * h (ix2 r c) = _
  rw [ones_apply, sigm_apply, sigm_apply]
  show (1 - Ideal.logistic (extractStridedSlice _ _ gx _ _ + extractStridedSlice _ _ gh _ _))
      * Ideal.tanh (extractStridedSlice _ _ gx _ _ + Ideal.logistic (extractStridedSlice _ _ gx _ _ + extractStridedSlice _ _ gh _ _) * extractStridedSlice _ _ gh _ _)
      + Ideal.logistic (extractStridedSlice _ _ gx _ _ + extractStridedSlice _ _ gh _ _) * _ = _
  rw [block_apply 32 gx _ r c (gz c) rfl, block_apply 32 gh _ r c (gz c) rfl, block_apply 64 gx _ r c (gn c) rfl, block_apply 64 gh _ r c (gn c) rfl,
    block_apply 0 gx _ r c (gr c) (Nat.zero_add _).symm, block_apply 0 gh _ r c (gr c) (Nat.zero_add _).symm]
  rfl

theorem inp_apply (t : Nat) (ht : t < 8) (xg : FVec Ideal S100000x8x96 .f32) (r : Fin 100000) (g : Fin 96) :
    inp t ht xg (ix2 r g) = xg (ix3 r ⟨t, ht⟩ g) := by
  unfold inp
  rw [shapeCast_apply _ shapeCasts_S100000x1x96_S100000x96 (ix2 r g) (ix3 r 0 g)
    (by rewrite [Shape.rowMajor_val_three, Shape.rowMajor_val_two]; show (r.val * 1 + 0) * 96 + g.val = r.val * 96 + g.val; omega)]
  exact extractStridedSlice_apply _ _ _ _ _ fun a => by
    match a with
    | ⟨0, _⟩ => show r.val = 0 + r.val; omega
    | ⟨1, _⟩ => rfl
    | ⟨2, _⟩ => show g.val = 0 + g.val; omega

/-- The recurrent part, read at a gate's row. -/
theorem rec_apply (W : Wt) (w : FVec Ideal S96x32 .f32) (b : FVec Ideal S96 .f32) (hw : ∀ g k, w (ix2 g k) = W.wh g k) (hb : ∀ g, b (ix1 g) = W.bh g)
    (h : FVec Ideal S100000x32 .f32) (r : Fin 100000) (g : Fin 96) : rec w b h (ix2 r g) = W.ph (fun k => h (ix2 r k)) g := by
  have ed : Host.dotGeneral dot_S100000x32_S32x96_S100000x96_1_0_0_1_n_n none h (transpose S32x96 [1, 0] w transposes_S96x32_S32x96_1_0) (ix2 r g)
      = ∑ k : Fin 32, h (ix2 r k) * W.wh g k := by
    simp only [Host.dotGeneral]
    rw [Ideal.dotGeneral_apply, ← Equiv.sum_comp (ValueIdx.contrEquiv1 dot_S100000x32_S32x96_S100000x96_1_0_0_1_n_n 32 rfl rfl).symm]
    refine Finset.sum_congr rfl fun k _ => ?_
    have hk := ValueIdx.contrEquiv1_symm_val dot_S100000x32_S32x96_S100000x96_1_0_0_1_n_n 32 rfl rfl k
    generalize (ValueIdx.contrEquiv1 dot_S100000x32_S32x96_S100000x96_1_0_0_1_n_n 32 rfl rfl).symm k = q at hk ⊢
    rw [show dot_S100000x32_S32x96_S100000x96_1_0_0_1_n_n.lhsIdx (ix2 r g) q = ix2 r k from funext fun a => Fin.ext (by
        match a with
        | ⟨0, _⟩ => exact lhs_main_v14_0 _ _
        | ⟨1, _⟩ => exact (lhs_main_v14_1 _ _).trans hk),
      transpose_apply [1, 0] w transposes_S96x32_S32x96_1_0 _ (ix2 g k) (fun b => by
        match b with
        | ⟨0, _⟩ => exact ((rhs_main_v14_0 (ix2 r g) q).trans hk).symm
        | ⟨1, _⟩ => exact (rhs_main_v14_1 (ix2 r g) q).symm), hw]
  show Host.dotGeneral _ none h _ (ix2 r g) + broadcastInDim _ _ _ _ (ix2 r g) = _
  rw [ed, broadcastInDim_apply _ bcast_S1x96_S100000x96_0_1 _ (ix2 r g) (ix2 0 g) (fun a => by
      match a with
      | ⟨0, _⟩ => exact (if_pos rfl).symm
      | ⟨1, _⟩ => show g.val = if (96 : Nat) = 1 then 0 else g.val; rw [if_neg (by decide)]),
    broadcastInDim_apply _ bcast_S96_S1x96_1 _ (ix2 0 g) (ix1 g) (fun a => by
      match a with
      | ⟨0, _⟩ => show g.val = if (96 : Nat) = 1 then 0 else g.val; rw [if_neg (by decide)]), hb]
  rfl

/-- The input part of every gate, read at a time of a node. -/
theorem input_apply (W : Wt) (x : FVec Ideal S100000x8x128 .f32) (w : FVec Ideal S96x128 .f32) (b : FVec Ideal S96 .f32)
    (hw : ∀ g k, w (ix2 g k) = W.wi g k) (hb : ∀ g, b (ix1 g) = W.bi g) (r : Fin 100000) (t : Fin 8) (g : Fin 96) :
    val_main_v9 (F := Ideal) x w b (ix3 r t g) = W.px (fun k => x (ix3 r t k)) g := by
  rw [val_main_v9_apply, val_main_v8_apply, val_main_v7_apply]
  show val_main_v6 (F := Ideal) x w (ix3 r t g) + _ = _
  rw [val_main_v6_apply]
  unfold Wt.px
  congr 1
  · refine Finset.sum_congr rfl fun k _ => ?_
    rw [show lidx_main_v6 (ix3 r t g) k = ix3 r t k from funext fun a => by match a with | ⟨0, _⟩ => rfl | ⟨1, _⟩ => rfl | ⟨2, _⟩ => rfl,
      show ridx_main_v6 (ix3 r t g) k = ix2 g k from funext fun a => by match a with | ⟨0, _⟩ => rfl | ⟨1, _⟩ => rfl, hw]
  · rw [show idx_main_v7 (idx_main_v8 (ix3 r t g)) = ix1 g from funext fun a => by match a with | ⟨0, _⟩ => rfl, hb]

/-- A time lies within a length below nine when it is less than it. -/
theorem within_apply (t : Nat) (ht : t < 8) (len : IVec S100000 32) (r : Fin 100000) (c : Fin 32) (l : Nat) (hl : l ≤ 8)
    (h : len (ix1 r) = BitVec.ofNat 32 l) : within t len (ix2 r c) = BitVec.ofBool (decide (t < l)) := by
  unfold within
  rw [broadcastInDim_apply _ bcast_S100000x1_S100000x32_0_1 _ (ix2 r c) (ix2 r 0) (fun a => by
      match a with
      | ⟨0, _⟩ => show r.val = if (100000 : Nat) = 1 then 0 else r.val; rw [if_neg (by decide)]
      | ⟨1, _⟩ => exact (if_pos rfl).symm),
    broadcastInDim_apply _ bcast_S100000_S100000x1_0 _ (ix2 r 0) (ix1 r) (fun a => by
      match a with
      | ⟨0, _⟩ => show r.val = if (100000 : Nat) = 1 then 0 else r.val; rw [if_neg (by decide)])]
  show IntOp.cmpi .sgt (len (ix1 r)) (broadcastInDim _ _ _ _ (ix1 r)) = _
  rw [h, broadcastInDim_apply _ bcast_S_S100000 _ (ix1 r) (fun a => a.elim0) (fun a => a.elim0)]
  show IntOp.cmpi .sgt (BitVec.ofNat 32 l) (BitVec.ofNat 32 t) = _
  have key : ∀ l : Fin 9, ∀ t : Fin 8, IntOp.cmpi .sgt (BitVec.ofNat 32 l.val) (BitVec.ofNat 32 t.val) = BitVec.ofBool (decide (t.val < l.val)) := by decide
  exact key ⟨l, by omega⟩ ⟨t, ht⟩

/-- One step of the reference: the cell while the time is within the length, the old state from there on. -/
theorem rstep_apply (W : Wt) (t : Nat) (ht : t < 8) (xg : FVec Ideal S100000x8x96 .f32) (w : FVec Ideal S96x32 .f32) (b : FVec Ideal S96 .f32)
    (hw : ∀ g k, w (ix2 g k) = W.wh g k) (hb : ∀ g, b (ix1 g) = W.bh g) (len : IVec S100000 32) (h : FVec Ideal S100000x32 .f32)
    (r : Fin 100000) (l : Nat) (hl : l ≤ 8) (hlen : len (ix1 r) = BitVec.ofNat 32 l) (x : Fin 128 → EReal)
    (hx : t < l → ∀ g, xg (ix3 r ⟨t, ht⟩ g) = W.px x g) (c : Fin 32) :
    rstep t ht xg w b len h (ix2 r c) = if t < l then cell W x (fun k => h (ix2 r k)) c else h (ix2 r c) := by
  show Scalar.select (within t len (ix2 r c)) (upd (inp t ht xg) (rec w b h) h (ix2 r c)) (h (ix2 r c)) = _
  rw [within_apply t ht len r c l hl hlen]
  by_cases htl : t < l
  · rw [if_pos htl, show decide (t < l) = true from decide_eq_true htl]
    show upd (inp t ht xg) (rec w b h) h (ix2 r c) = _
    rw [upd_apply]
    simp only [inp_apply, rec_apply W w b hw hb, hx htl]
    rfl
  · rw [if_neg htl, show decide (t < l) = false from decide_eq_false htl]
    rfl

/-- The chain of steps, read at a node: the forward pass of the cell. -/
theorem states_apply (W : Wt) (xg : FVec Ideal S100000x8x96 .f32) (w : FVec Ideal S96x32 .f32) (b : FVec Ideal S96 .f32)
    (hw : ∀ g k, w (ix2 g k) = W.wh g k) (hb : ∀ g, b (ix1 g) = W.bh g) (len : IVec S100000 32) (h : FVec Ideal S100000x32 .f32)
    (r : Fin 100000) (l : Nat) (hl : l ≤ 8) (hlen : len (ix1 r) = BitVec.ofNat 32 l) (x : Nat → Fin 128 → EReal)
    (hx : ∀ t (ht : t < 8), t < l → ∀ g, xg (ix3 r ⟨t, ht⟩ g) = W.px (x t) g) (hz : ∀ c, h (ix2 r c) = 0) (n : Nat) (hn : n ≤ 8) (c : Fin 32) :
    states xg w b len h n hn (ix2 r c) = Cell.fwd (fun t => cell W (x t)) l (fun _ => 0) n c := by
  induction n generalizing c with
  | zero => exact hz c
  | succ n ih =>
    show rstep n _ xg w b len (states xg w b len h n _) (ix2 r c) = (if n < l then _ else _ : Fin 32 → EReal) c
    rw [rstep_apply W n (by omega) xg w b hw hb len _ r l hl hlen (x n) (hx n (by omega)) c]
    simp only [ih]
    split <;> rfl

end Cert.ReferenceIdeal.Rs
-- ==== Proof.Value.Length.lean ====
/- The length of a row of eight ids: the position of its first pad, or eight. -/
module

public import Idealize.ShloMosaic.PureOps.Reduce
public import Mathlib.Data.Fintype.Pi

@[expose] public section

set_option maxRecDepth 16384

noncomputable section

namespace Cert.Cell

open Idealize.ShloMosaic

/-- The position of the first of eight marks, or eight. -/
def firstOf (p : Fin 8 → Bool) : ℕ :=
  if p 0 then 0 else if p 1 then 1 else if p 2 then 2 else if p 3 then 3 else if p 4 then 4 else if p 5 then 5 else if p 6 then 6
  else if p 7 then 7 else 8

theorem firstOf_le (p : Fin 8 → Bool) : firstOf p ≤ 8 := by
  unfold firstOf; repeat' split
  all_goals omega

/-- A position lies before the first mark when no position up to it is marked. -/
theorem lt_firstOf (p : Fin 8 → Bool) (t : Fin 8) : t.val < firstOf p ↔ ∀ s : Fin 8, s ≤ t → p s = false := by
  revert p t
  have key : ∀ b0 b1 b2 b3 b4 b5 b6 b7 : Bool, ∀ t : Fin 8,
      t.val < firstOf ![b0, b1, b2, b3, b4, b5, b6, b7] ↔ ∀ s : Fin 8, s ≤ t → (![b0, b1, b2, b3, b4, b5, b6, b7] : Fin 8 → Bool) s = false := by
    decide +kernel
  intro p t
  have e : p = ![p 0, p 1, p 2, p 3, p 4, p 5, p 6, p 7] := by funext s; fin_cases s <;> rfl
  rw [e]
  exact key _ _ _ _ _ _ _ _ t

/-- The smallest marked position as a word, or eight, is the position of the first mark. -/
theorem fold_firstOf (p : Fin 8 → Bool) :
    (Finset.univ : Finset (Fin 8)).fold IntOp.minsi 2147483647#32 (fun s => if p s then BitVec.ofNat 32 s.val else 8#32) = BitVec.ofNat 32 (firstOf p) := by
  revert p
  have key : ∀ b0 b1 b2 b3 b4 b5 b6 b7 : Bool,
      (Finset.univ : Finset (Fin 8)).fold IntOp.minsi 2147483647#32
        (fun s => if (![b0, b1, b2, b3, b4, b5, b6, b7] : Fin 8 → Bool) s then BitVec.ofNat 32 s.val else 8#32)
        = BitVec.ofNat 32 (firstOf ![b0, b1, b2, b3, b4, b5, b6, b7]) := by
    decide +kernel
  intro p
  have e : p = ![p 0, p 1, p 2, p 3, p 4, p 5, p 6, p 7] := by funext s; fin_cases s <;> rfl
  rw [e]
  exact key _ _ _ _ _ _ _ _

/-- The length of a row of ids, the pad being 1000. -/
def lenOf (ids : Fin 8 → BitVec 32) : ℕ := firstOf fun s => ids s == 1000#32

end Cert.Cell
-- ==== Proof.Value.RefOut.lean ====
/- What the reference returns, read one unit of one node at a time: the sum of the forward and the backward pass of the
   textbook cell over the node's row, up to its first pad. -/
module

public import proofs.«01_k».proof.Proof.Value.RefRead
public import proofs.«01_k».proof.Proof.Value.Length
public import Idealize.ShloMosaic.Lib.ReduceAll
public import Idealize.ShloMosaic.Lib.Pointwise.Reduce

@[expose] public section

set_option maxRecDepth 16384

noncomputable section

namespace Cert.ReferenceIdeal.Rs

open Cert.ReferenceIdeal Cert.ReferenceIdeal.Gen Cert.ReferenceIdeal.Read Idealize.ShloMosaic.StableHlo
open Idealize.ShloMosaic hiding ix1 ix2 ix3 eq_ix3
open Idealize.ShloMosaic.ValueIdx
open Cert.Cell (Wt cell lenOf firstOf)

variable (x1 : IVec S100000x8 32)

/-- The length of a node's row. -/
def len (r : Fin 100000) : ℕ := lenOf fun s => x1 (ix2 r s)

theorem len_le (r : Fin 100000) : len x1 r ≤ 8 := by
  unfold len lenOf
  exact Cell.firstOf_le _

theorem v4_apply (r : Fin 100000) (s : Fin 8) :
    val_main_v4 (F := Ideal) x1 (ix2 r s) = if (x1 (ix2 r s) == 1000#32) then BitVec.ofNat 32 s.val else 8#32 := by
  rw [val_main_v4_apply, val_main_v1_apply, val_main_v0_apply, val_main_call0_v1_apply, val_main_v3_apply, val_main_call0_v2_apply]
  show Scalar.select (BitVec.ofBool (x1 (ix2 r s) == 1000#32)) (BitVec.ofNat 32 s.val) 8#32 = _
  cases x1 (ix2 r s) == 1000#32 <;> rfl

/-- The reference's lengths. -/
theorem v5_apply (r : Fin 100000) : val_main_v5 (F := Ideal) x1 (ix1 r) = BitVec.ofNat 32 (len x1 r) := by
  unfold val_main_v5
  rw [Host.reduce_eq_fold, Shape.ReducesTo.fold_fiber_r2_a1]
  show (Finset.univ : Finset (Fin 8)).fold IntOp.minsi 2147483647#32 (fun k => val_main_v4 (F := Ideal) x1 (ix2 r k)) = _
  simp only [v4_apply]
  exact Cell.fold_firstOf fun s => x1 (ix2 r s) == 1000#32

/-- The time the reversed row reads at a time, as a word. -/
def back (l t : ℕ) : BitVec 32 := IntOp.minsi 7#32 (IntOp.maxsi 0#32 (BitVec.ofNat 32 l - 1#32 - BitVec.ofNat 32 t))

theorem back_range : ∀ l : Fin 9, ∀ t : Fin 8, IntOp.cmpi .slt (back l.val t.val) 0#32 = 0#1 ∧ IntOp.cmpi .sge (back l.val t.val) 0#32 = 1#1
    ∧ IntOp.cmpi .sle (back l.val t.val) 7#32 = 1#1 ∧ (t.val < l.val → min (back l.val t.val).toInt.toNat 7 = l.val - 1 - t.val) := by
  decide +kernel

theorem v327_apply (r : Fin 100000) (z : Fin 1) : val_main_v327 (F := Ideal) x1 (ix2 r z) = BitVec.ofNat 32 (len x1 r) - 1#32 := by
  have h : idx_main_v325 (ix2 r z) = ix1 r := funext fun a => by match a with | ⟨0, _⟩ => rfl
  rw [val_main_v327_apply, val_main_v325_apply, val_main_v326_apply, h, v5_apply]
  rfl

theorem v330_apply (r : Fin 100000) (t : Fin 8) :
    val_main_v330 (F := Ideal) x1 (ix2 r t) = BitVec.ofNat 32 (len x1 r) - 1#32 - BitVec.ofNat 32 t.val := by
  have h : idx_main_v328 (ix2 r t) = ix2 r (0 : Fin 1) := funext fun a => by match a with | ⟨0, _⟩ => rfl | ⟨1, _⟩ => rfl
  rw [val_main_v330_apply, val_main_v328_apply, val_main_v329_apply, h, v327_apply, val_main_v324_apply]
  rfl

theorem v331_apply (r : Fin 100000) (t : Fin 8) : val_main_v331 (F := Ideal) x1 (ix2 r t) = back (len x1 r) t.val := by
  rw [val_main_v331_apply, val_main_call9_v4_apply, val_main_call9_v2_apply, v330_apply, val_main_call9_v1_apply]
  rfl

theorem v332_apply (r : Fin 100000) (t : Fin 8) : val_main_v332 (F := Ideal) x1 (ix3 r t 0) = back (len x1 r) t.val := by
  have h : idx_main_v332 (ix3 r t 0) = ix2 r t := funext fun a => by match a with | ⟨0, _⟩ => rfl | ⟨1, _⟩ => rfl
  rw [val_main_v332_apply, h, v331_apply]

theorem call10_v4_apply (r : Fin 100000) (t : Fin 8) : val_main_call10_v4 (F := Ideal) x1 (ix3 r t 0) = back (len x1 r) t.val := by
  have h := back_range ⟨len x1 r, by have := len_le x1 r; omega⟩ t
  rw [val_main_call10_v4_apply, val_main_call10_v1_apply, v332_apply, val_main_call10_v0_apply]
  show Scalar.select (IntOp.cmpi .slt (back (len x1 r) t.val) 0#32) _ _ = _
  rw [h.1]
  rfl

/-- No reversed time falls outside the row. -/
theorem call10_v11_apply (j : S100000x8.Idx) : val_main_call10_v11 (F := Ideal) x1 j = 1#1 := by
  unfold val_main_call10_v11
  refine Host.reduce_andi_one _ _ _ _ j rfl fun i => ?_
  obtain ⟨r, t, z, rfl⟩ : ∃ (r : Fin 100000) (t : Fin 8) (z : Fin 1), i = ix3 r t z := ⟨i 0, i 1, i 2, eq_ix3 i⟩
  obtain rfl : z = 0 := Subsingleton.elim _ _
  have h := back_range ⟨len x1 r, by have := len_le x1 r; omega⟩ t
  rw [val_main_call10_v10_apply, val_main_call10_v6_apply, val_main_call10_v9_apply, call10_v4_apply, val_main_call10_v5_apply, val_main_call10_v8_apply]
  show IntOp.andi (IntOp.cmpi .sge (back (len x1 r) t.val) 0#32) (IntOp.cmpi .sle (back (len x1 r) t.val) 7#32) = 1#1
  rw [h.2.1, h.2.2.1]
  rfl

/-- The element the gather reads: the node's row at the reversed time. -/
theorem gather_idx (idx : IVec S100000x8x1 32) (r : Fin 100000) (t : Fin 8) (k : Fin 128) :
    gather_S100000x8x128_S100000x8x1_S100000x8x128_2_1_0_0_1_2_11128.operandIdx (ix3 r t k) idx
      = ix3 r ⟨min (idx (ix3 r t 0)).toInt.toNat 7, by omega⟩ k := by
  have c0 : ∀ X : Fin 3, X = 0 → ((ix3 r t k : S100000x8x128.Idx) X).val = r.val := fun X h => by subst h; rfl
  have c1 : ∀ X : Fin 3, X = 1 → ((ix3 r t k : S100000x8x128.Idx) X).val = t.val := fun X h => by subst h; rfl
  have c2 : ∀ X : Fin 3, X = 2 → ((ix3 r t k : S100000x8x128.Idx) X).val = k.val := fun X h => by subst h; rfl
  funext a
  apply Fin.ext
  match a with
  | ⟨0, _⟩ =>
    show GatherDims.start (s := S100000x8x128) _ _ _ (0 : Fin 3) + GatherDims.batchCoord (s := S100000x8x128) _ _ (0 : Fin 3) + GatherDims.offCoord (s := S100000x8x128) _ _ (0 : Fin 3) = r.val
    unfold GatherDims.start GatherDims.batchCoord GatherDims.offCoord
    rw [dif_neg (by decide), dif_pos (by decide), dif_neg (by decide), Nat.zero_add, Nat.add_zero]
    exact c0 _ (by decide)
  | ⟨1, _⟩ =>
    show GatherDims.start (s := S100000x8x128) _ _ _ (1 : Fin 3) + GatherDims.batchCoord (s := S100000x8x128) _ _ (1 : Fin 3) + GatherDims.offCoord (s := S100000x8x128) _ _ (1 : Fin 3)
      = min (idx (ix3 r t 0)).toInt.toNat 7
    unfold GatherDims.start GatherDims.batchCoord GatherDims.offCoord
    rw [dif_pos (by decide), dif_neg (by decide), dif_neg (by decide), Nat.add_zero]
    have : ∀ i : S100000x8x1.Idx, i = ix3 r t 0 → min (idx i).toInt.toNat 7 = min (idx (ix3 r t 0)).toInt.toNat 7 := fun i h => by rw [h]
    refine this _ (funext fun b => Fin.ext ?_)
    match b with
    | ⟨0, _⟩ => exact (congrArg Fin.val (dif_neg (show ¬ (0 : Nat) = 2 by decide))).trans (c0 _ (by rfl))
    | ⟨1, _⟩ => exact (congrArg Fin.val (dif_neg (show ¬ (1 : Nat) = 2 by decide))).trans (c1 _ (by rfl))
    | ⟨2, _⟩ => rfl
  | ⟨2, _⟩ =>
    show GatherDims.start (s := S100000x8x128) _ _ _ (2 : Fin 3) + GatherDims.batchCoord (s := S100000x8x128) _ _ (2 : Fin 3) + GatherDims.offCoord (s := S100000x8x128) _ _ (2 : Fin 3) = k.val
    unfold GatherDims.start GatherDims.batchCoord GatherDims.offCoord
    rw [dif_neg (by decide), dif_neg (by decide), dif_pos (by decide), Nat.zero_add]
    exact c2 _ (by decide)

/-- The reversed rows: within the length, the node's row read backward from its last time. -/
theorem v333_apply (x0 : FVec Ideal S100000x8x128 .f32) (r : Fin 100000) (t : Fin 8) (k : Fin 128) (ht : t.val < len x1 r) :
    val_main_v333 (F := Ideal) x0 x1 (ix3 r t k) = x0 (ix3 r ⟨len x1 r - 1 - t.val, by have := len_le x1 r; omega⟩ k) := by
  have h := back_range ⟨len x1 r, by have := len_le x1 r; omega⟩ t
  rw [val_main_v333_apply, val_main_call10_v13_apply, call10_v11_apply]
  show val_main_call10_v12 (F := Ideal) x0 x1 (ix3 r t k) = _
  unfold val_main_call10_v12
  show x0 (_) = _
  rw [gather_idx]
  refine congrArg (fun m => x0 (ix3 r m k)) (Fin.ext ?_)
  show min (val_main_call10_v4 (F := Ideal) x1 (ix3 r t 0)).toInt.toNat 7 = _
  rw [call10_v4_apply]
  exact h.2.2.2 ht

section
variable (x0 : FVec Ideal S100000x8x128 .f32) (x2 : FVec Ideal S96x128 .f32) (x3 : FVec Ideal S96x32 .f32) (x4 x5 : FVec Ideal S96 .f32)
  (x6 : FVec Ideal S96x128 .f32) (x7 : FVec Ideal S96x32 .f32) (x8 x9 : FVec Ideal S96 .f32)

/-- A node's row at a time, the last time standing for every later one. -/
def rowAt (r : Fin 100000) (t : ℕ) (k : Fin 128) : EReal := x0 (ix3 r ⟨min t 7, by omega⟩ k)

/-- The two passes of a node, summed. -/
def both (Wf Wb : Wt) (r : Fin 100000) (c : Fin 32) : EReal :=
  Cell.fwd (fun t => cell Wf (rowAt x0 r t)) (len x1 r) (fun _ => 0) 8 c
    + Cell.fwd (fun t => cell Wb (rowAt x0 r (len x1 r - 1 - t))) (len x1 r) (fun _ => 0) 8 c

/-- What the reference returns. -/
theorem out_apply (r : Fin 100000) (c : Fin 32) :
    val_main_v651 (F := Ideal) x0 x1 x2 x3 x4 x5 x6 x7 x8 x9 (ix2 r c) = both x1 x0 (wt x2 x3 x4 x5) (wt x6 x7 x8 x9) r c := by
  have hl := len_le x1 r
  rw [val_main_v651_apply, fwd_states, bwd_states,
    states_apply (wt x2 x3 x4 x5) _ x3 x5 (fun _ _ => rfl) (fun _ => rfl) _ _ r (len x1 r) hl (v5_apply x1 r) (rowAt x0 r)
      (fun t ht htl g => by
        rw [input_apply (wt x2 x3 x4 x5) x0 x2 x4 (fun _ _ => rfl) (fun _ => rfl)]
        exact congrArg (fun f => Wt.px _ f g) (funext fun k => congrArg (fun m => x0 (ix3 r m k)) (Fin.ext (Nat.min_eq_left (by omega)).symm)))
      (fun c => by rw [val_main_v10_apply, val_main_cst_apply]; exact zero_bits) 8 le_rfl c,
    states_apply (wt x6 x7 x8 x9) _ x7 x9 (fun _ _ => rfl) (fun _ => rfl) _ _ r (len x1 r) hl (v5_apply x1 r) (fun t => rowAt x0 r (len x1 r - 1 - t))
      (fun t ht htl g => by
        show val_main_v9 (F := Ideal) (val_main_v333 x0 x1) x6 x8 (ix3 r ⟨t, ht⟩ g) = _
        rw [input_apply (wt x6 x7 x8 x9) _ x6 x8 (fun _ _ => rfl) (fun _ => rfl)]
        exact congrArg (fun f => Wt.px _ f g) (funext fun k => (v333_apply x1 x0 r ⟨t, ht⟩ k htl).trans
          (congrArg (fun m => x0 (ix3 r m k)) (Fin.ext (Nat.min_eq_left (by omega)).symm))))
      (fun c => by rw [val_main_v338_apply, val_main_cst_53_apply]; exact zero_bits) 8 le_rfl c]
  rfl

end

end Cert.ReferenceIdeal.Rs
-- ==== Proof.Value.KerStep.lean ====
/- One step of the kernel's recurrence read one unit of one row at a time: the step through tangents of the row's own
   cell, where the row still runs. -/
module

public import proofs.«01_k».proof.Proof.KernelIdeal.Run
public import proofs.«01_k».proof.Proof.Value.Cell
public import Idealize.ShloMosaic.Lib.MatmulPlain
public import Idealize.ShloMosaic.Lib.Pipeline.Value

@[expose] public section

set_option maxRecDepth 16384

noncomputable section

namespace Cert.KernelIdeal.Bi

open Gen
open Idealize.ShloMosaic
open Idealize.ShloMosaic.ValueIdx
open Cert.Cell (Wt hf gr gz gn cellT gateT)

theorem half_bits : Ideal.ofBits .f32 0x3F000000#32 = hf := by
  simp [Ideal.ofBits, Ideal.ieee, -EReal.coe_mul]; norm_num

theorem zero_bits : Ideal.ofBits .f32 0x00000000#32 = 0 := by
  simp [Ideal.ofBits, Ideal.ieee]

/-- The row of the stacked weights that holds row `g` of direction `d`. -/
def at96 (d : Dir) (g : Fin 96) : Fin 192 := ⟨96 * d.val + g.val, by omega⟩
def at32 (d : Dir) (c : Fin 32) : Fin 64 := ⟨32 * d.val + c.val, by omega⟩

/-- The stacked weights hold, for direction `d`, the weights `w` with the gates' rows halved. -/
structure Holds (W : Wts Ideal) (d : Dir) (w : Wt) : Prop where
  ih : ∀ g k, W.ih (ix2 (at96 d g) k) = w.wi g k * (if g.val < 64 then hf else 1)
  hh : ∀ g k, W.hh (ix2 (at96 d g) k) = w.wh g k * (if g.val < 64 then hf else 1)
  b : ∀ g, W.b (ix2 (at96 d g) 0) = if g.val < 64 then hf * (w.bi g + w.bh g) else w.bi g
  bn : ∀ c, W.bn (ix2 (at32 d c) 0) = hf * w.bh (gn c)

/-- A row block of a matrix. -/
theorem rows_apply {φ : FTy} {m k n : ℕ} (o : ℕ) (h : o + k ≤ m) (v : FVec Ideal (Mat m n) φ) (g : Fin k) (c : Fin n) :
    extractStridedSlice (Mat k n) ![o, 0] v (mat_slices o h) (ix2 g c) = v (ix2 ⟨o + g.val, by omega⟩ c) :=
  extractStridedSlice_apply _ v _ _ _ fun a => match a with
    | ⟨0, _⟩ => rfl
    | ⟨1, _⟩ => (Nat.zero_add _).symm

/-- A column spread over a matrix. -/
theorem col_apply {m w : ℕ} (v : FVec Ideal (Mat m 1) .f32) (g : Fin m) (r : Fin w) :
    broadcastTo (Mat m w) v (col_broadcasts m w) (ix2 g r) = v (ix2 g 0) :=
  broadcastTo_apply v _ _ _ fun a => match a with
    | ⟨0, _⟩ => by
      show g.val = if m = 1 then 0 else g.val
      split <;> omega
    | ⟨1, _⟩ => (if_pos rfl).symm

/-- A row spread over a matrix. -/
theorem row_apply {m w : ℕ} (v : IVec (Mat 1 w) 1) (g : Fin m) (r : Fin w) :
    broadcastTo (Mat m w) v (row_broadcasts m w) (ix2 g r) = v (ix2 0 r) :=
  broadcastTo_apply v _ _ _ fun a => match a with
    | ⟨0, _⟩ => (if_pos rfl).symm
    | ⟨1, _⟩ => by
      show r.val = if w = 1 then 0 else r.val
      split <;> omega

/-- A slab of inputs as a matrix. -/
theorem slab_apply {w : ℕ} (x : Vec Ideal (Slab w) .f32) (r : Fin w) (k : Fin 128) :
    shapeCast (Mat w 128) x (slab_casts w) (ix2 r k) = x (ix4 0 0 r k) :=
  shapeCast_apply x _ _ _ (by
    rw [Shape.rowMajor_val_four, Shape.rowMajor_val_two]
    show ((0 * 1 + 0) * w + r.val) * 128 + k.val = r.val * 128 + k.val
    omega)

section
variable (w : ℕ) (W : Wts Ideal) (d : Dir) (x : Vec Ideal (Slab w) .f32) (h : FVec Ideal (Mat 32 w) .f32)

/-- The input part of the gates' arguments, biases and all, as the step computes it. -/
def gx : FVec Ideal (Mat 96 w) .f32 :=
  addf (matmul (DotDims.transposedRhs 96 128 w) none
      (extractStridedSlice (Mat 96 128) ![96 * d.val, 0] W.ih (mat_slices _ (dir96 d)) : FVec Ideal (Mat 96 128) .bf16)
      (truncf .bf16 (shapeCast (Mat w 128) x (slab_casts w)) bitsLt_bf16_f32 : FVec Ideal (Mat w 128) .bf16) (constant (Mat 96 w) .f32 0x00000000#32))
    (broadcastTo (Mat 96 w) (extractStridedSlice (Mat 96 1) ![96 * d.val, 0] W.b (mat_slices _ (dir96 d)) : FVec Ideal (Mat 96 1) .f32) (col_broadcasts 96 w))

/-- The recurrent part of the gates' arguments. -/
def gh : FVec Ideal (Mat 96 w) .f32 :=
  matmul (DotDims.plain 96 32 w) none
    (extractStridedSlice (Mat 96 32) ![96 * d.val, 0] W.hh (mat_slices _ (dir96 d)) : FVec Ideal (Mat 96 32) .bf16)
    (truncf .bf16 h bitsLt_bf16_f32 : FVec Ideal (Mat 32 w) .bf16) (constant (Mat 96 w) .f32 0x00000000#32)

/-- The candidate's recurrent bias. -/
def bn : FVec Ideal (Mat 32 w) .f32 :=
  broadcastTo (Mat 32 w) (extractStridedSlice (Mat 32 1) ![32 * d.val, 0] W.bn (mat_slices _ (dir32 d)) : FVec Ideal (Mat 32 1) .f32) (col_broadcasts 32 w)

theorem gx_apply (g : Fin 96) (r : Fin w) :
    gx w W d x (ix2 g r) = (∑ k, W.ih (ix2 (at96 d g) k) * x (ix4 0 0 r k)) + W.b (ix2 (at96 d g) 0) := by
  refine congrArg₂ (· + ·) ((Ideal.matmul_transposedRhs_apply none _ _ _ g r).trans ?_) ((col_apply _ g r).trans (rows_apply _ (dir96 d) W.b g 0))
  refine (congrArg₂ (· + ·) zero_bits (Finset.sum_congr rfl fun k _ => congrArg₂ (· * ·) (rows_apply _ (dir96 d) W.ih g k) (slab_apply x r k))).trans (zero_add _)

theorem gh_apply (g : Fin 96) (r : Fin w) : gh w W d h (ix2 g r) = ∑ k, W.hh (ix2 (at96 d g) k) * h (ix2 k r) := by
  refine (Ideal.matmul_plain_apply none _ _ _ g r).trans ?_
  refine (congrArg₂ (· + ·) zero_bits (Finset.sum_congr rfl fun k _ => congrArg₂ (· * ·) (rows_apply _ (dir96 d) W.hh g k) rfl)).trans (zero_add _)

theorem bn_apply (c : Fin 32) (r : Fin w) : bn w W d (ix2 c r) = W.bn (ix2 (at32 d c) 0) :=
  (col_apply _ c r).trans (rows_apply _ (dir32 d) W.bn c 0)

/-- The step at a unit of a row, from the parts of the gates' arguments. -/
theorem step_parts (m : IVec (Mat 1 w) 1) (c : Fin 32) (r : Fin w) :
    step w W d x h m (ix2 c r) = Scalar.select (m (ix2 0 r))
      (gateT (gx w W d x (ix2 (gr c) r) + gh w W d h (ix2 (gr c) r)) (gx w W d x (ix2 (gz c) r) + gh w W d h (ix2 (gz c) r))
        (gx w W d x (ix2 (gn c) r)) (hf * gh w W d h (ix2 (gn c) r) + bn w W d (ix2 c r)) (h (ix2 c r)))
      (h (ix2 c r)) := by
  have e0 : ∀ (v : FVec Ideal (Mat 96 w) .f32) (g : Fin 64), extractStridedSlice (Mat 64 w) ![0, 0] v (mat_slices 0 (by decide)) (ix2 g r) = v (ix2 ⟨g.val, by omega⟩ r) :=
    fun v g => (rows_apply 0 (by decide) v g r).trans (congrArg (fun i => v (ix2 i r)) (Fin.ext (Nat.zero_add _)))
  have er : ∀ v : FVec Ideal (Mat 64 w) .f32, extractStridedSlice (Mat 32 w) ![0, 0] v (mat_slices 0 (by decide)) (ix2 c r) = v (ix2 ⟨c.val, by omega⟩ r) :=
    fun v => (rows_apply 0 (by decide) v c r).trans (congrArg (fun i => v (ix2 i r)) (Fin.ext (Nat.zero_add _)))
  have ez : ∀ v : FVec Ideal (Mat 64 w) .f32, extractStridedSlice (Mat 32 w) ![32, 0] v (mat_slices 32 (by decide)) (ix2 c r) = v (ix2 ⟨32 + c.val, by omega⟩ r) :=
    fun v => rows_apply 32 (by decide) v c r
  have en : ∀ v : FVec Ideal (Mat 96 w) .f32, extractStridedSlice (Mat 32 w) ![64, 0] v (mat_slices 64 (by decide)) (ix2 c r) = v (ix2 (gn c) r) :=
    fun v => rows_apply 64 (by decide) v c r
  have em : broadcastTo (Mat 32 w) (shapeCast (Mat 1 w) m (mat_casts 1 w)) (row_broadcasts 32 w) (ix2 c r) = m (ix2 0 r) :=
    (row_apply _ c r).trans (congrFun (shapeCast_self m _) _)
  generalize hrz : (tanh (addf (extractStridedSlice (Mat 64 w) ![0, 0] (gx w W d x) (mat_slices 0 (by decide)))
    (extractStridedSlice (Mat 64 w) ![0, 0] (gh w W d h) (mat_slices 0 (by decide)))) : FVec Ideal (Mat 64 w) .f32) = rz
  have hrz' : ∀ g : Fin 64, rz (ix2 g r) = Ideal.tanh (gx w W d x (ix2 ⟨g.val, by omega⟩ r) + gh w W d h (ix2 ⟨g.val, by omega⟩ r)) := fun g => by
    rw [← hrz]
    exact congrArg Ideal.tanh (congrArg₂ (· + ·) (e0 _ g) (e0 _ g))
  have key : step w W d x h m (ix2 c r) = Scalar.select (broadcastTo (Mat 32 w) (shapeCast (Mat 1 w) m (mat_casts 1 w)) (row_broadcasts 32 w) (ix2 c r))
      ((fun hb hn T => hb * (h (ix2 c r) - T) + T + (hb * extractStridedSlice (Mat 32 w) ![32, 0] rz (mat_slices 32 (by decide)) (ix2 c r)) * (h (ix2 c r) - T))
        (Ideal.ofBits .f32 0x3F000000#32)
        (Ideal.ofBits .f32 0x3F000000#32 * extractStridedSlice (Mat 32 w) ![64, 0] (gh w W d h) (mat_slices 64 (by decide)) (ix2 c r) + bn w W d (ix2 c r))
        (Ideal.tanh ((extractStridedSlice (Mat 32 w) ![64, 0] (gx w W d x) (mat_slices 64 (by decide)) (ix2 c r)
          + (Ideal.ofBits .f32 0x3F000000#32 * extractStridedSlice (Mat 32 w) ![64, 0] (gh w W d h) (mat_slices 64 (by decide)) (ix2 c r) + bn w W d (ix2 c r)))
          + extractStridedSlice (Mat 32 w) ![0, 0] rz (mat_slices 0 (by decide)) (ix2 c r)
            * (Ideal.ofBits .f32 0x3F000000#32 * extractStridedSlice (Mat 32 w) ![64, 0] (gh w W d h) (mat_slices 64 (by decide)) (ix2 c r) + bn w W d (ix2 c r)))))
      (h (ix2 c r)) := by
    rw [← hrz]; rfl
  rw [key, em, er, ez, en, en, hrz', hrz', half_bits]
  rfl

/-- THE STEP: where the row runs, the step of its own cell through tangents. -/
theorem step_apply (wt : Wt) (hW : Holds W d wt) (m : IVec (Mat 1 w) 1) (c : Fin 32) (r : Fin w) :
    step w W d x h m (ix2 c r)
      = Scalar.select (m (ix2 0 r)) (cellT wt (fun k => x (ix4 0 0 r k)) (fun k => h (ix2 k r)) c) (h (ix2 c r)) := by
  have q : ∀ g : Fin 96, g.val < 64 → gx w W d x (ix2 g r) + gh w W d h (ix2 g r) = wt.qa (fun k => x (ix4 0 0 r k)) (fun k => h (ix2 k r)) g := fun g hg => by
    rw [gx_apply, gh_apply, hW.b, if_pos hg]
    simp only [hW.ih, hW.hh, if_pos hg]
    rfl
  have hn : ¬ (gn c).val < 64 := by show ¬ 64 + c.val < 64; omega
  rw [step_parts, q _ (show c.val < 64 by omega), q _ (show 32 + c.val < 64 by omega), gx_apply, gh_apply, bn_apply, hW.b, hW.bn, if_neg hn]
  simp only [hW.ih, hW.hh, if_neg hn, mul_one]
  rfl

end

end Cert.KernelIdeal.Bi
-- ==== Proof.Value.KerTile.lean ====
/- The states of a tile and the block a grid point leaves, read one unit of one row at a time: the forward and the
   backward pass of the textbook cell over the row, up to its first pad. -/
module

public import proofs.«01_k».proof.Proof.Value.KerStep
public import proofs.«01_k».proof.Proof.Value.Length

@[expose] public section

set_option maxRecDepth 16384

noncomputable section

namespace Cert.KernelIdeal.Bi

open Gen
open Idealize.ShloMosaic
open Idealize.ShloMosaic.ValueIdx
open Cert.Cell (Wt cellT lenOf firstOf)

/-! ## The rows still running -/

section
variable (ids : Vec Ideal S1x8x2000 .i32)

/-- The length of a row of the ids block. -/
def klen (r : Fin 2000) : ℕ := lenOf fun s => ids (ix3 0 s r)

theorem klen_le (r : Fin 2000) : klen ids r ≤ 8 := by unfold klen lenOf; exact Cell.firstOf_le _

theorem lt_klen (r : Fin 2000) (t : Fin 8) : t.val < klen ids r ↔ ∀ s : Fin 8, s ≤ t → (ids (ix3 0 s r) == 1000#32) = false := by
  unfold klen lenOf; exact Cell.lt_firstOf _ t

theorem liveRow_apply (t : ℕ) (ht : t < 8) (r : Fin 2000) :
    liveRow ids t ht (ix2 0 r) = BitVec.ofBool (!(ids (ix3 0 ⟨t, ht⟩ r) == 1000#32)) := by
  have e : liveRow ids t ht (ix2 0 r) = live ids (ix2 ⟨t, ht⟩ r) :=
    extractStridedSlice_apply _ _ _ _ _ fun a => match a with
      | ⟨0, _⟩ => rfl
      | ⟨1, _⟩ => (Nat.zero_add _).symm
  have c : shapeCast S8x2000 ids shapeCasts_S1x8x2000_S8x2000 (ix2 ⟨t, ht⟩ r) = ids (ix3 0 ⟨t, ht⟩ r) :=
    shapeCast_apply ids _ _ _ (by
      rw [Shape.rowMajor_val_three, Shape.rowMajor_val_two]
      show (0 * 8 + t) * 2000 + r.val = t * 2000 + r.val
      omega)
  rw [e]
  show IntOp.cmpi .ne (shapeCast S8x2000 ids shapeCasts_S1x8x2000_S8x2000 (ix2 ⟨t, ht⟩ r)) 1000#32 = _
  rw [c]
  rfl

/-- A row runs at a time when its first pad comes later. -/
theorem running_apply (t : ℕ) (ht : t < 8) (r : Fin 2000) : running ids t ht (ix2 0 r) = BitVec.ofBool (decide (t < klen ids r)) := by
  induction t with
  | zero =>
    show liveRow ids 0 ht (ix2 0 r) = _
    rw [liveRow_apply]
    congr 1
    rw [Bool.eq_iff_iff, decide_eq_true_iff, lt_klen ids r ⟨0, ht⟩, Bool.not_eq_true']
    exact ⟨fun h s hs => by obtain rfl : s = ⟨0, ht⟩ := Fin.ext (Nat.le_zero.mp hs); exact h, fun h => h _ le_rfl⟩
  | succ t ih =>
    show IntOp.andi (running ids t _ (ix2 0 r)) (liveRow ids (t + 1) ht (ix2 0 r)) = _
    rw [ih (by omega), liveRow_apply]
    have h : decide (t + 1 < klen ids r) = (decide (t < klen ids r) && !(ids (ix3 0 ⟨t + 1, ht⟩ r) == 1000#32)) := by
      rw [Bool.eq_iff_iff, Bool.and_eq_true, decide_eq_true_iff, decide_eq_true_iff, Bool.not_eq_true', lt_klen ids r ⟨t + 1, ht⟩, lt_klen ids r ⟨t, by omega⟩]
      refine ⟨fun h => ⟨fun s hs => h s (hs.trans (Nat.le_succ t)), h _ le_rfl⟩, fun h s hs => ?_⟩
      rcases Nat.lt_or_ge s.val (t + 1) with h' | h'
      · exact h.1 s (Nat.lt_succ_iff.mp h')
      · obtain rfl : s = ⟨t + 1, ht⟩ := Fin.ext (le_antisymm hs h')
        exact h.2
    rw [h]
    cases decide (t < klen ids r) <;> cases (ids (ix3 0 ⟨t + 1, ht⟩ r) == 1000#32) <;> rfl

theorem runningTile_apply (t : ℕ) (ht : t < 8) (j w : ℕ) (hj : j + w ≤ 2000) (r : Fin w) :
    runningTile ids t ht j w hj (ix2 0 r) = BitVec.ofBool (decide (t < klen ids ⟨j + r.val, by omega⟩)) :=
  (extractStridedSlice_apply _ _ _ _ (ix2 0 ⟨j + r.val, by omega⟩) fun a => match a with
    | ⟨0, _⟩ => rfl
    | ⟨1, _⟩ => rfl).trans (running_apply ids t ht _)

end

/-! ## A tile's states -/

/-- A node's row at a time, the last time standing for every later one. -/
def rowK (X : S100000x8x128.Idx → EReal) (R : Fin 100000) (t : ℕ) (k : Fin 128) : EReal := X (ix3 R ⟨min t 7, by omega⟩ k)

/-- The node a row of a block holds. -/
def nodeOf (b : Fin 50) (r : Fin 2000) : Fin 100000 := ⟨2000 * b.val + r.val, by omega⟩

theorem tile_apply (i : grid0.Coords) (X : S100000x8x128.Idx → EReal) (b : Fin 50) (w t j : ℕ) (ht : t < 8) (hj : j + w ≤ 2000) (r : Fin w) (k : Fin 128) :
    tile (F := Ideal) i (lbuf (F := Ideal) X b) w t j ht hj (ix4 0 0 r k) = rowK X (nodeOf b ⟨j + r.val, by omega⟩) t k := by
  refine congrArg X ?_
  funext a
  apply Fin.ext
  match a with
  | ⟨0, _⟩ =>
    show 2000 * b.val + (j + 1 * r.val) = 2000 * b.val + (j + r.val)
    omega
  | ⟨1, _⟩ =>
    show t + 1 * 0 = min t 7
    omega
  | ⟨2, _⟩ =>
    show 0 + 1 * k.val = k.val
    omega

section
variable (i : grid0.Coords) (W : Wts Ideal) (ids : Vec Ideal S1x8x2000 .i32) (X : S100000x8x128.Idx → EReal) (b : Fin 50)
  (wf wb : Wt) (hf : Holds W 0 wf) (hb : Holds W 1 wb) (Ff : wf.Fin) (Fb : wb.Fin)

include hf hb Ff Fb in
/-- A tile's states after `n` steps: the two passes of the row, both finite. -/
theorem tileV_apply (w j : ℕ) (hj : j + w ≤ 2000) (r : Fin w) (n : ℕ) (hn : n ≤ 8) (c : Fin 32) :
    ((tileV i W ids (lbuf (F := Ideal) X b) w j hj n hn).f (ix2 c r)
        = Cell.fwd (fun t => Cell.cell wf (rowK X (nodeOf b ⟨j + r.val, by omega⟩) t)) (klen ids ⟨j + r.val, by omega⟩) (fun _ => 0) n c
      ∧ ∃ q : ℝ, (tileV i W ids (lbuf (F := Ideal) X b) w j hj n hn).f (ix2 c r) = q)
    ∧ ((tileV i W ids (lbuf (F := Ideal) X b) w j hj n hn).b (ix2 c r)
        = Cell.bwd (fun t => Cell.cell wb (rowK X (nodeOf b ⟨j + r.val, by omega⟩) t)) (klen ids ⟨j + r.val, by omega⟩) (fun _ => 0) n c
      ∧ ∃ q : ℝ, (tileV i W ids (lbuf (F := Ideal) X b) w j hj n hn).b (ix2 c r) = q) := by
  have one : ∀ (wt : Wt) (d : Dir) (hw : Holds W d wt) (Fw : wt.Fin) (t : ℕ) (ht : t < 8) (h : FVec Ideal (Mat 32 w) .f32) (s : Fin 32 → EReal)
      (hs : ∀ c, h (ix2 c r) = s c ∧ ∃ q : ℝ, h (ix2 c r) = q) (c : Fin 32),
      step w W d (tile i (lbuf (F := Ideal) X b) w t j ht hj) h (runningTile ids t ht j w hj) (ix2 c r)
          = (if t < klen ids ⟨j + r.val, by omega⟩ then Cell.cell wt (rowK X (nodeOf b ⟨j + r.val, by omega⟩) t) s else s) c
        ∧ ∃ q : ℝ, step w W d (tile i (lbuf (F := Ideal) X b) w t j ht hj) h (runningTile ids t ht j w hj) (ix2 c r) = q := by
    intro wt d hw Fw t ht h s hs c
    rw [step_apply w W d _ h wt hw, runningTile_apply]
    have es : (fun k => h (ix2 k r)) = s := funext fun k => (hs k).1
    have ex : (fun k => tile (F := Ideal) i (lbuf (F := Ideal) X b) w t j ht hj (ix4 0 0 r k)) = rowK X (nodeOf b ⟨j + r.val, by omega⟩) t :=
      funext fun k => tile_apply i X b w t j ht hj r k
    rw [es, ex]
    by_cases hl : t < klen ids ⟨j + r.val, by omega⟩
    · obtain ⟨e, q, hq⟩ := Cell.cellT_eq wt Fw (rowK X (nodeOf b ⟨j + r.val, by omega⟩) t) s (fun k => by rw [← (hs k).1]; exact (hs k).2) c
      rw [if_pos hl, decide_eq_true hl]
      exact ⟨e, q, e.trans hq⟩
    · rw [if_neg hl, decide_eq_false hl]
      exact hs c
  induction n generalizing c with
  | zero => exact ⟨⟨zero_bits, 0, zero_bits⟩, zero_bits, 0, zero_bits⟩
  | succ n ih =>
    exact ⟨one wf 0 hf Ff n (by omega) _ _ (fun c => (ih (by omega) c one).1) c, one wb 1 hb Fb (7 - n) (by omega) _ _ (fun c => (ih (by omega) c one).2) c⟩

include hf hb Ff Fb in
/-- The block a grid point leaves. -/
theorem outB_apply (r : Fin 2000) (c : Fin 32) :
    outB i W ids (lbuf (F := Ideal) X b) (ix2 r c)
      = Cell.fwd (fun t => Cell.cell wf (rowK X (nodeOf b r) t)) (klen ids r) (fun _ => 0) 8 c
        + Cell.fwd (fun t => Cell.cell wb (rowK X (nodeOf b r) (klen ids r - 1 - t))) (klen ids r) (fun _ => 0) 8 c := by
  rw [← Cell.bwd_eq (fun t => Cell.cell wb (rowK X (nodeOf b r) t)) (klen ids r) (klen_le ids r)]
  have tr : ∀ (w j : ℕ) (hj : j + w ≤ 2000) (q : Fin w) (hq : j + q.val = r.val),
      tileOut (tileV i W ids (lbuf (F := Ideal) X b) w j hj 8 le_rfl) (ix2 q c)
        = Cell.fwd (fun t => Cell.cell wf (rowK X (nodeOf b r) t)) (klen ids r) (fun _ => 0) 8 c
          + Cell.bwd (fun t => Cell.cell wb (rowK X (nodeOf b r) t)) (klen ids r) (fun _ => 0) 8 c := by
    intro w j hj q
    have hlt : j + q.val < 2000 := by have := q.isLt; omega
    intro hq
    rw [show r = ⟨j + q.val, hlt⟩ from Fin.ext hq.symm]
    refine (transpose_apply _ _ _ _ (ix2 c q) fun a => match a with
      | ⟨0, _⟩ => rfl
      | ⟨1, _⟩ => rfl).trans ?_
    have h := tileV_apply i W ids X b wf wb hf hb Ff Fb w j hj q 8 le_rfl c
    exact congrArg₂ (· + ·) h.1.1 h.2.1
  unfold outB
  have hr := r.isLt
  split
  · next h =>
    have h : r.val < 1792 := h
    exact tr 256 (256 * (r.val / 256)) (by omega) ⟨r.val % 256, Nat.mod_lt _ (by decide)⟩ (by show 256 * (r.val / 256) + r.val % 256 = r.val; omega)
  · next h =>
    have h : ¬ r.val < 1792 := h
    exact tr 208 1792 (by decide) ⟨r.val - 1792, by omega⟩ (by show 1792 + (r.val - 1792) = r.val; omega)

end

end Cert.KernelIdeal.Bi
-- ==== Proof.Value.KerPrelude.lean ====
/- What the program hands the kernel, read one element at a time: the weights of both directions stacked, the reset and
   update gates' rows halved; and the ids cut into blocks of rows, times outermost. -/
module

public import proofs.«01_k».proof.Proof.Value.KerTile
public import Idealize.ShloMosaic.Lib.Claim

@[expose] public section

set_option maxRecDepth 16384

noncomputable section

namespace Cert.KernelIdeal.Bi

open Gen
open Idealize.ShloMosaic Idealize.ShloMosaic.TcCoe Idealize.SL.Sem
open Idealize.ShloMosaic.ValueIdx
open Cert.Cell (Wt hf gr gz gn)

/-! ## The pieces -/

theorem one_bits : Ideal.ofBits .f32 0x3F800000#32 = 1 := by
  simp [Ideal.ofBits, Ideal.ieee, -EReal.coe_mul]; norm_num

/-- Two lists end to end. -/
theorem cat1_apply {m n p : ℕ} (a : FVec Ideal ⟨1, ![m]⟩ .f32) (b : FVec Ideal ⟨1, ![n]⟩ .f32)
    (h : Shape.Concatenates [⟨1, ![m]⟩, ⟨1, ![n]⟩] ⟨1, ![p]⟩ 0) (hp : p = m + n) (g : Fin p) :
    concatenate ⟨1, ![p]⟩ 0 [⟨⟨1, ![m]⟩, a⟩, ⟨⟨1, ![n]⟩, b⟩] h (ix1 g)
      = if hg : g.val < m then a (ix1 ⟨g.val, hg⟩) else b (ix1 ⟨g.val - m, by omega⟩) := by
  split
  · next hg => exact concatenate_pair_apply_left (t := ⟨1, ![p]⟩) (s₁ := ⟨1, ![m]⟩) (s₂ := ⟨1, ![n]⟩) 0 a b h (ix1 g) rfl _ fun x => by match x with | ⟨0, _⟩ => rfl
  · next hg =>
    refine concatenate_pair_apply_right (t := ⟨1, ![p]⟩) (s₁ := ⟨1, ![m]⟩) (s₂ := ⟨1, ![n]⟩) 0 a b h (ix1 g) rfl rfl _ (fun x hx => absurd (Subsingleton.elim (α := Fin 1) _ _) hx) ?_
    show g.val - m + m = g.val
    omega

/-- Two matrices one on the other. -/
theorem cat2_apply {m n p q : ℕ} (a : FVec Ideal (Mat m q) .f32) (b : FVec Ideal (Mat n q) .f32)
    (h : Shape.Concatenates [Mat m q, Mat n q] (Mat p q) 0) (hp : p = m + n) (g : Fin p) (k : Fin q) :
    concatenate (Mat p q) 0 [⟨Mat m q, a⟩, ⟨Mat n q, b⟩] h (ix2 g k)
      = if hg : g.val < m then a (ix2 ⟨g.val, hg⟩ k) else b (ix2 ⟨g.val - m, by omega⟩ k) := by
  split
  · next hg => exact concatenate_pair_apply_left (t := Mat p q) (s₁ := Mat m q) (s₂ := Mat n q) 0 a b h (ix2 g k) rfl _ fun x => by match x with | ⟨0, _⟩ => rfl | ⟨1, _⟩ => rfl
  · next hg =>
    refine concatenate_pair_apply_right (t := Mat p q) (s₁ := Mat m q) (s₂ := Mat n q) 0 a b h (ix2 g k) rfl rfl _ (fun x hx => ?_) ?_
    · match x, hx with
      | ⟨0, _⟩, hx => exact absurd rfl hx
      | ⟨1, _⟩, _ => rfl
    · show g.val - m + m = g.val
      omega

/-- A list as a column. -/
theorem tocol_apply {n : ℕ} (v : FVec Ideal ⟨1, ![n]⟩ .f32) (h : Shape.BroadcastsInDim ⟨1, ![n]⟩ (Mat n 1) ![0]) (g : Fin n) :
    broadcastInDim (Mat n 1) ![0] h v (ix2 g 0) = v (ix1 g) :=
  broadcastInDim_apply _ _ _ _ _ fun a => match a with
    | ⟨0, _⟩ => by
      show g.val = if n = 1 then 0 else g.val
      split <;> omega

/-- A column spread over a matrix. -/
theorem incol_apply {n q : ℕ} (v : FVec Ideal (Mat n 1) .f32) (h : Shape.BroadcastsInDim (Mat n 1) (Mat n q) ![0, 1]) (g : Fin n) (k : Fin q) :
    broadcastInDim (Mat n q) ![0, 1] h v (ix2 g k) = v (ix2 g 0) :=
  broadcastInDim_apply _ _ _ _ _ fun a => match a with
    | ⟨0, _⟩ => by
      show g.val = if n = 1 then 0 else g.val
      split <;> omega
    | ⟨1, _⟩ => (if_pos rfl).symm

/-- A stretch of a list. -/
theorem part_apply {m k : ℕ} (o : ℕ) (v : FVec Ideal ⟨1, ![m]⟩ .f32) (h : Shape.Slices ⟨1, ![m]⟩ ![o] ⟨1, ![k]⟩) (g : Fin k) (hg : o + g.val < m) :
    extractStridedSlice ⟨1, ![k]⟩ ![o] v h (ix1 g) = v (ix1 ⟨o + g.val, hg⟩) :=
  extractStridedSlice_apply _ v _ _ _ fun a => match a with
    | ⟨0, _⟩ => rfl

/-- The scales of the gates' rows: one half for the reset and update gates, one for the candidate. -/
def scale : FVec Ideal S96x1 .f32 :=
  broadcastInDim S96x1 ![0] bcast_S96_S96x1_0 (concatenate S96 0 [⟨S64, broadcastInDim S64 ![] bcast_S_S64 (constant S_ .f32 0x3F000000#32 : FVec Ideal S_ .f32)⟩,
    ⟨S32, broadcastInDim S32 ![] bcast_S_S32 (constant S_ .f32 0x3F800000#32 : FVec Ideal S_ .f32)⟩] concatenates_S64_S32_S96_d0)

theorem scale_apply (g : Fin 96) : scale (ix2 g 0) = if g.val < 64 then hf else 1 := by
  unfold scale
  refine (tocol_apply _ _ g).trans ((cat1_apply (m := 64) (n := 32) (p := 96) _ _ _ rfl g).trans ?_)
  split
  · exact half_bits
  · exact one_bits

/-- Both directions' matrices, scaled and stacked. -/
def stack {q : ℕ} (hb : Shape.BroadcastsInDim S96x1 (Mat 96 q) ![0, 1]) (hc : Shape.Concatenates [Mat 96 q, Mat 96 q] (Mat 192 q) 0)
    (a b : FVec Ideal (Mat 96 q) .f32) : FVec Ideal (Mat 192 q) .bf16 :=
  truncf .bf16 (concatenate (Mat 192 q) 0 [⟨Mat 96 q, mulf a (broadcastInDim (Mat 96 q) ![0, 1] hb scale)⟩,
    ⟨Mat 96 q, mulf b (broadcastInDim (Mat 96 q) ![0, 1] hb scale)⟩] hc) bitsLt_bf16_f32

/-- The matrix of a direction. -/
def pick {α : Type} (d : Dir) (a b : α) : α := if d.val = 0 then a else b

/-- Both directions' matrices, one on the other. -/
theorem mat2_apply {n p q : ℕ} (a b : FVec Ideal (Mat n q) .f32) (hc : Shape.Concatenates [Mat n q, Mat n q] (Mat p q) 0) (hp : p = n + n)
    (d : Dir) (g : Fin n) (k : Fin q) (hg : n * d.val + g.val < p) :
    concatenate (Mat p q) 0 [⟨Mat n q, a⟩, ⟨Mat n q, b⟩] hc (ix2 ⟨n * d.val + g.val, hg⟩ k) = pick d a b (ix2 g k) := by
  refine (cat2_apply _ _ hc hp _ k).trans ?_
  match d with
  | ⟨0, _⟩ =>
    refine (dif_pos (show n * 0 + g.val < n by omega)).trans ?_
    exact congrArg (fun i => a (ix2 i k)) (Fin.ext (show n * 0 + g.val = g.val by omega))
  | ⟨1, _⟩ =>
    refine (dif_neg (show ¬ n * 1 + g.val < n by omega)).trans ?_
    exact congrArg (fun i => b (ix2 i k)) (Fin.ext (show n * 1 + g.val - n = g.val by omega))

theorem stack_apply {q : ℕ} (hb : Shape.BroadcastsInDim S96x1 (Mat 96 q) ![0, 1]) (hc : Shape.Concatenates [Mat 96 q, Mat 96 q] (Mat 192 q) 0)
    (a b : FVec Ideal (Mat 96 q) .f32) (d : Dir) (g : Fin 96) (k : Fin q) :
    stack hb hc a b (ix2 (at96 d g) k) = pick d a b (ix2 g k) * (if g.val < 64 then hf else 1) := by
  have ea : ∀ x : FVec Ideal (Mat 96 q) .f32, mulf x (broadcastInDim (Mat 96 q) ![0, 1] hb scale) (ix2 g k) = x (ix2 g k) * (if g.val < 64 then hf else 1) := fun x =>
    congrArg (x (ix2 g k) * ·) ((incol_apply scale hb g k).trans (scale_apply g))
  refine (mat2_apply _ _ hc rfl d g k (by omega)).trans ?_
  unfold pick
  split
  · exact ea a
  · exact ea b

/-- A direction's biases: the reset and update gates' two summed and halved, the candidate's input one. -/
def bias (p q : FVec Ideal S96 .f32) : FVec Ideal S96 .f32 :=
  concatenate S96 0 [⟨S64, mulf (broadcastInDim S64 ![] bcast_S_S64 (constant S_ .f32 0x3F000000#32 : FVec Ideal S_ .f32))
    (addf (extractStridedSlice S64 ![0] p slices_S96_S64_0) (extractStridedSlice S64 ![0] q slices_S96_S64_0))⟩,
    ⟨S32, extractStridedSlice S32 ![64] p slices_S96_S32_64⟩] concatenates_S64_S32_S96_d0

theorem bias_apply (p q : FVec Ideal S96 .f32) (g : Fin 96) :
    bias p q (ix1 g) = if g.val < 64 then hf * (p (ix1 g) + q (ix1 g)) else p (ix1 g) := by
  unfold bias
  refine (cat1_apply (m := 64) (n := 32) (p := 96) _ _ _ rfl g).trans ?_
  split
  · next hg =>
    refine congrArg₂ (· * ·) half_bits (congrArg₂ (· + ·) ?_ ?_)
    · exact (part_apply 0 p _ ⟨g.val, hg⟩ (by show 0 + g.val < 96; omega)).trans (congrArg (fun i => p (ix1 i)) (Fin.ext (Nat.zero_add _)))
    · exact (part_apply 0 q _ ⟨g.val, hg⟩ (by show 0 + g.val < 96; omega)).trans (congrArg (fun i => q (ix1 i)) (Fin.ext (Nat.zero_add _)))
  · next hg =>
    exact (part_apply 64 p _ ⟨g.val - 64, by omega⟩ (by show 64 + (g.val - 64) < 96; omega)).trans
      (congrArg (fun i => p (ix1 i)) (Fin.ext (show 64 + (g.val - 64) = g.val by omega)))

/-- The candidate's recurrent biases of a direction, halved. -/
def cand (q : FVec Ideal S96 .f32) : FVec Ideal S32 .f32 :=
  mulf (broadcastInDim S32 ![] bcast_S_S32 (constant S_ .f32 0x3F000000#32 : FVec Ideal S_ .f32)) (extractStridedSlice S32 ![64] q slices_S96_S32_64)

theorem cand_apply (q : FVec Ideal S96 .f32) (c : Fin 32) : cand q (ix1 c) = hf * q (ix1 (gn c)) :=
  congrArg₂ (· * ·) half_bits (part_apply 64 q _ c (by omega))

/-- Two columns one on the other. -/
theorem col2_apply {n p : ℕ} (a b : FVec Ideal ⟨1, ![n]⟩ .f32) (hb : Shape.BroadcastsInDim ⟨1, ![p]⟩ (Mat p 1) ![0])
    (hc : Shape.Concatenates [⟨1, ![n]⟩, ⟨1, ![n]⟩] ⟨1, ![p]⟩ 0) (hp : p = n + n) (d : Dir) (g : Fin n) (hg : n * d.val + g.val < p) :
    broadcastInDim (Mat p 1) ![0] hb (concatenate ⟨1, ![p]⟩ 0 [⟨⟨1, ![n]⟩, a⟩, ⟨⟨1, ![n]⟩, b⟩] hc) (ix2 ⟨n * d.val + g.val, hg⟩ 0) = pick d a b (ix1 g) := by
  refine (tocol_apply _ _ _).trans ((cat1_apply _ _ hc hp _).trans ?_)
  match d with
  | ⟨0, _⟩ =>
    refine (dif_pos (show n * 0 + g.val < n by omega)).trans ?_
    exact congrArg (fun i => a (ix1 i)) (Fin.ext (show n * 0 + g.val = g.val by omega))
  | ⟨1, _⟩ =>
    refine (dif_neg (show ¬ n * 1 + g.val < n by omega)).trans ?_
    exact congrArg (fun i => b (ix1 i)) (Fin.ext (show n * 1 + g.val - n = g.val by omega))

/-! ## The buffers the region finds -/

variable (m : (ℓ : Loc nD τ sig) → Buf (Elt Ideal) ℓ) (c : Dev nD)

/-- An argument as launched. -/
abbrev arg2 : FVec Ideal S96x128 .f32 := m ((c.tc : Thread nD τ).loc main_arg2)
abbrev arg3 : FVec Ideal S96x32 .f32 := m ((c.tc : Thread nD τ).loc main_arg3)
abbrev arg4 : FVec Ideal S96 .f32 := m ((c.tc : Thread nD τ).loc main_arg4)
abbrev arg5 : FVec Ideal S96 .f32 := m ((c.tc : Thread nD τ).loc main_arg5)
abbrev arg6 : FVec Ideal S96x128 .f32 := m ((c.tc : Thread nD τ).loc main_arg6)
abbrev arg7 : FVec Ideal S96x32 .f32 := m ((c.tc : Thread nD τ).loc main_arg7)
abbrev arg8 : FVec Ideal S96 .f32 := m ((c.tc : Thread nD τ).loc main_arg8)
abbrev arg9 : FVec Ideal S96 .f32 := m ((c.tc : Thread nD τ).loc main_arg9)
abbrev arg1 : IVec S100000x8 32 := m ((c.tc : Thread nD τ).loc main_arg1)
abbrev arg0 : FVec Ideal S100000x8x128 .f32 := m ((c.tc : Thread nD τ).loc main_arg0)

theorem V_ih : V m c main_v10 = stack bcast_S96x1_S96x128_0_1 concatenates_S96x128_S96x128_S192x128_d0 (arg2 m c) (arg6 m c) := by
  entry_read
  rfl
theorem V_hh : V m c main_v16 = stack bcast_S96x1_S96x32_0_1 concatenates_S96x32_S96x32_S192x32_d0 (arg3 m c) (arg7 m c) := by
  entry_read
  rfl
theorem V_b : V m c main_v32 = broadcastInDim S192x1 ![0] bcast_S192_S192x1_0 (concatenate S192 0 [⟨S96, bias (arg4 m c) (arg5 m c)⟩,
    ⟨S96, bias (arg8 m c) (arg9 m c)⟩] concatenates_S96_S96_S192_d0) := by
  entry_read
  rfl
theorem V_bn : V m c main_v40 = broadcastInDim S64x1 ![0] bcast_S64_S64x1_0 (concatenate S64 0 [⟨S32, cand (arg5 m c)⟩,
    ⟨S32, cand (arg9 m c)⟩] concatenates_S32_S32_S64_d0) := by
  entry_read
  rfl
theorem V_ids : V m c main_v42 = transpose S50x8x2000 [0, 2, 1] (shapeCast S50x2000x8 (arg1 m c) shapeCasts_S100000x8_S50x2000x8) transposes_S50x2000x8_S50x8x2000_0_2_1 := by
  entry_read
  rfl

theorem V_ids_apply (b : Fin 50) (s : Fin 8) (r : Fin 2000) : (V m c main_v42 : IVec S50x8x2000 32) (ix3 b s r) = arg1 m c (ix2 (nodeOf b r) s) := by
  rw [V_ids]
  refine (transpose_apply _ _ _ _ (ix3 b r s) fun a => match a with
    | ⟨0, _⟩ => rfl
    | ⟨1, _⟩ => rfl
    | ⟨2, _⟩ => rfl).trans ?_
  exact shapeCast_apply _ _ _ _ (by
    rw [Shape.rowMajor_val_three, Shape.rowMajor_val_two]
    show (2000 * b.val + r.val) * 8 + s.val = (b.val * 2000 + r.val) * 8 + s.val
    omega)

end Cert.KernelIdeal.Bi
-- ==== Proof.Value.KerOut.lean ====
/- The kernel's whole result, read one unit of one node at a time: the sum of the forward and the backward pass of the
   textbook cell over the node's row, up to its first pad. -/
module

public import proofs.«01_k».proof.Proof.Value.KerPrelude
public import Idealize.ShloMosaic.Lib.Pipeline.ValueKit

@[expose] public section

set_option maxRecDepth 16384

noncomputable section

namespace Cert.KernelIdeal.Bi

open Gen
open Idealize.ShloMosaic hiding ix1 ix2 ix3 eq_ix3
open Idealize.ShloMosaic.TcCoe Idealize.SL.Sem
open Idealize.ShloMosaic.ValueIdx
open Cert.Cell (Wt hf gr gz gn lenOf)

variable (m : (ℓ : Loc nD τ sig) → Buf (Elt Ideal) ℓ) (c : Dev nD) (t : Fin cfg0.N)

/-! ## The blocks a grid point reads -/

/-- The number of a grid point, as a word. -/
theorem coord_word : (BitVec.ofNat 32 (grid0.coords t 0).val).toNat = (blkNo (grid0.coords t)).val := by
  have h : (grid0.coords t 0).val < 50 := (grid0.coords t 0).isLt
  show (grid0.coords t 0).val % 2 ^ 32 = (grid0.coords t 0).val
  exact Nat.mod_eq_of_lt (by omega)

theorem ids_blk (s : Fin 8) (r : Fin 2000) :
    (iblk m c 0 t : Vec Ideal S1x8x2000 .i32) (ix3 0 s r) = (V m c main_v42 : IVec S50x8x2000 32) (ix3 (blkNo (grid0.coords t)) s r) := by
  unfold iblk
  blk_simp
  refine congrArg (V m c main_v42 : IVec S50x8x2000 32) (funext fun a => Fin.ext ((Pipeline.Window.rect_emb_val win0_0 t _ a).trans ?_))
  match a with
  | ⟨0, _⟩ =>
    show (BitVec.ofNat 32 (grid0.coords t 0).val).toNat * 1 + 0 = _
    rw [coord_word]; show (blkNo (grid0.coords t)).val * 1 + 0 = (blkNo (grid0.coords t)).val; omega
  | ⟨1, _⟩ => show 0 * 8 + s.val = s.val; omega
  | ⟨2, _⟩ => show 0 * 2000 + r.val = r.val; omega

theorem ih_blk : (iblk m c 1 t : Vec Ideal S192x128 .bf16) = (V m c main_v10 : FVec Ideal S192x128 .bf16) := by
  unfold iblk
  funext i
  blk_simp
  refine congrArg (V m c main_v10 : FVec Ideal S192x128 .bf16) (funext fun a => Fin.ext ((Pipeline.Window.rect_emb_val win0_1 t _ a).trans ?_))
  match a with
  | ⟨0, _⟩ => show 0 * 192 + _ = _; rw [Nat.zero_mul, Nat.zero_add]
  | ⟨1, _⟩ => show 0 * 128 + _ = _; rw [Nat.zero_mul, Nat.zero_add]

theorem hh_blk : (iblk m c 2 t : Vec Ideal S192x32 .bf16) = (V m c main_v16 : FVec Ideal S192x32 .bf16) := by
  unfold iblk
  funext i
  blk_simp
  refine congrArg (V m c main_v16 : FVec Ideal S192x32 .bf16) (funext fun a => Fin.ext ((Pipeline.Window.rect_emb_val win0_2 t _ a).trans ?_))
  match a with
  | ⟨0, _⟩ => show 0 * 192 + _ = _; rw [Nat.zero_mul, Nat.zero_add]
  | ⟨1, _⟩ => show 0 * 32 + _ = _; rw [Nat.zero_mul, Nat.zero_add]

theorem b_blk : (iblk m c 3 t : Vec Ideal S192x1 .f32) = (V m c main_v32 : FVec Ideal S192x1 .f32) := by
  unfold iblk
  funext i
  blk_simp
  refine congrArg (V m c main_v32 : FVec Ideal S192x1 .f32) (funext fun a => Fin.ext ((Pipeline.Window.rect_emb_val win0_3 t _ a).trans ?_))
  match a with
  | ⟨0, _⟩ => show 0 * 192 + _ = _; rw [Nat.zero_mul, Nat.zero_add]
  | ⟨1, _⟩ => show 0 * 1 + _ = _; rw [Nat.zero_mul, Nat.zero_add]

theorem bn_blk : (iblk m c 4 t : Vec Ideal S64x1 .f32) = (V m c main_v40 : FVec Ideal S64x1 .f32) := by
  unfold iblk
  funext i
  blk_simp
  refine congrArg (V m c main_v40 : FVec Ideal S64x1 .f32) (funext fun a => Fin.ext ((Pipeline.Window.rect_emb_val win0_4 t _ a).trans ?_))
  match a with
  | ⟨0, _⟩ => show 0 * 64 + _ = _; rw [Nat.zero_mul, Nat.zero_add]
  | ⟨1, _⟩ => show 0 * 1 + _ = _; rw [Nat.zero_mul, Nat.zero_add]

/-- The weights of a direction, as arguments. -/
def wtOf (wi : FVec Ideal S96x128 .f32) (wh : FVec Ideal S96x32 .f32) (bi bh : FVec Ideal S96 .f32) : Wt :=
  ⟨fun g k => wi (ix2 g k), fun g k => wh (ix2 g k), fun g => bi (ix1 g), fun g => bh (ix1 g)⟩
def wtF : Wt := wtOf (arg2 m c) (arg3 m c) (arg4 m c) (arg5 m c)
def wtB : Wt := wtOf (arg6 m c) (arg7 m c) (arg8 m c) (arg9 m c)

theorem wtsAt_eq : wtsAt m c t = ⟨V m c main_v10, V m c main_v16, V m c main_v32, V m c main_v40⟩ := by
  unfold wtsAt wts
  rw [shapeCast_self, shapeCast_self, shapeCast_self, shapeCast_self, ih_blk, hh_blk, b_blk, bn_blk]

/-- The kernel's weights hold both directions'. -/
theorem holds (d : Dir) : Holds (wtsAt m c t) d (pick d (wtF m c) (wtB m c)) := by
  rw [wtsAt_eq]
  have e : ∀ d : Dir, d = 0 ∨ d = 1 := by decide
  constructor
  · intro g k
    show (V m c main_v10 : FVec Ideal S192x128 .bf16) _ = _
    rw [V_ih, stack_apply]
    rcases e d with rfl | rfl <;> rfl
  · intro g k
    show (V m c main_v16 : FVec Ideal S192x32 .bf16) _ = _
    rw [V_hh, stack_apply]
    rcases e d with rfl | rfl <;> rfl
  · intro g
    show (V m c main_v32 : FVec Ideal S192x1 .f32) _ = _
    rw [V_b]
    refine (col2_apply _ _ _ _ rfl d g (by omega)).trans ?_
    rcases e d with rfl | rfl
    · exact bias_apply _ _ g
    · exact bias_apply _ _ g
  · intro x
    show (V m c main_v40 : FVec Ideal S64x1 .f32) _ = _
    rw [V_bn]
    refine (col2_apply _ _ _ _ rfl d x (by omega)).trans ?_
    rcases e d with rfl | rfl
    · exact cand_apply _ x
    · exact cand_apply _ x

/-! ## The result -/

/-- The length of a node's row. -/
def lenK (R : Fin 100000) : ℕ := lenOf fun s => arg1 m c (ix2 R s)

theorem klen_eq (r : Fin 2000) : klen (iblk m c 0 t) r = lenK m c (nodeOf (blkNo (grid0.coords t)) r) := by
  unfold klen lenK
  refine congrArg lenOf (funext fun s => ?_)
  rw [ids_blk, V_ids_apply]

/-- The two passes of a node, summed. -/
def bothK (i : S100000x32.Idx) : EReal :=
  Cell.fwd (fun t => Cell.cell (wtF m c) (rowK (arg0 m c) (i 0) t)) (lenK m c (i 0)) (fun _ => 0) 8 (i 1)
    + Cell.fwd (fun t => Cell.cell (wtB m c) (rowK (arg0 m c) (i 0) (lenK m c (i 0) - 1 - t))) (lenK m c (i 0)) (fun _ => 0) 8 (i 1)

/-- A block of the kernel's result. -/
theorem outAt_apply (Ff : (wtF m c).Fin) (Fb : (wtB m c).Fin) (r : Fin 2000) (x : Fin 32) :
    outAt m c t (ix2 r x) = bothK m c (ix2 (nodeOf (blkNo (grid0.coords t)) r) x) := by
  unfold outAt
  have ef : feats m c = arg0 m c := V_main_arg0 m c
  rw [ef]
  refine (outB_apply (grid0.coords t) (wtsAt m c t) (iblk m c 0 t) (arg0 m c) (blkNo (grid0.coords t)) (wtF m c) (wtB m c)
    (holds m c t 0) (holds m c t 1) Ff Fb r x).trans ?_
  rw [klen_eq]
  rfl

/-- Where a block of the result lies in the whole. -/
theorem out_emb (r : Fin 2000) (x : Fin 32) :
    ((win0_5.blk t).view.emb (ix2 r x : S2000x32.Idx) : S100000x32.Idx) = ix2 (nodeOf (blkNo (grid0.coords t)) r) x :=
  funext fun a => Fin.ext ((Pipeline.Window.rect_emb_val win0_5 t _ a).trans (match a with
    | ⟨0, _⟩ => by
      show (BitVec.ofNat 32 (grid0.coords t 0).val).toNat * 2000 + r.val = _
      rw [coord_word]; show _ = 2000 * (blkNo (grid0.coords t)).val + r.val; omega
    | ⟨1, _⟩ => by show 0 * 32 + x.val = x.val; omega))

/-- The kernel's result, whole. -/
theorem out_arr (Ff : (wtF m c).Fin) (Fb : (wtB m c).Fin) :
    (dats m 0 c).arrAt 5 cfg0.N = (bothK m c : FVec Ideal S100000x32 .f32) := by
  refine (dats m 0 c).arrAt_eq_of_covers 5 _ (by decide +kernel) fun t hf y => ?_
  blk_simp
  rw [after_5]
  have hy : (y : S2000x32.Idx) = ix2 (y 0 : Fin 2000) (y 1 : Fin 32) := ValueIdx.eq_ix2 (n0 := 2000) (n1 := 32) y
  refine (congrArg (outAt m c t) hy).trans ((outAt_apply m c t Ff Fb (y 0) (y 1)).trans ?_)
  refine congrArg (bothK m c) ((out_emb t (y 0) (y 1)).symm.trans ?_)
  exact congrArg (win0_5.blk t).view.emb hy.symm

end Cert.KernelIdeal.Bi
-- ==== Proof.Value.PreRead.lean ====
/- What the precondition says: the candidate rows of the recurrent weights and of the recurrent bias are real numbers, in
   both directions. -/
module

public import proofs.«01_k».proof.Pre_candidate_rows_finite
public import proofs.«01_k».proof.Proof.Value.Cell
public import Idealize.ShloMosaic.Lib.ReduceAll
public import Idealize.ShloMosaic.Lib.ValueIdx

@[expose] public section

noncomputable section

namespace Cert.Pre_candidate_rows_finite

open Idealize.ShloMosaic
open Idealize.ShloMosaic.ValueIdx
open Cert.Cell (Wt gn)

/-- The side conditions of the precondition. -/
theorem facts : Facts where
  slices_S96x32_S32x32_64_0 := by decide
  bcast_S_S32x32 := by decide
  reducesTo_S32x32_S_d0_1 := by decide
  h_S_ := by decide
  slices_S96_S32_64 := by decide
  bcast_S_S32 := by decide
  reducesTo_S32_S_d0 := by decide

theorem inf_bits : Ideal.ofBits .f32 0x7F800000#32 = ⊤ := by
  simp [Ideal.ofBits, Ideal.ieee]

/-- A number whose absolute value is below infinity is real. -/
theorem real_of_abs_lt (x : EReal) (h : max x (-x) < ⊤) : ∃ r : ℝ, x = r := by
  induction x with
  | bot => simp at h
  | top => simp at h
  | coe r => exact ⟨r, rfl⟩

instance : Subsingleton S_.Idx := ⟨fun a b => funext fun d => d.elim0⟩

/-- An element at which the comparison holds is real. -/
theorem real_of_cmp {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    ∃ r : ℝ, x i = r := by
  refine real_of_abs_lt (x i) ?_
  have e' : BitVec.ofBool (decide (max (x i) (-(x i)) < Ideal.ofBits .f32 0x7F800000#32)) = 1#1 := e
  rw [inf_bits] at e'
  by_contra hn
  rw [decide_eq_false hn] at e'
  exact absurd e' (by decide)

theorem and_one (a b : BitVec 1) (h : a &&& b = 1#1) : a = 1#1 ∧ b = 1#1 := by
  revert a b; decide

/-- The candidate rows of a matrix, when every one of them compares below infinity. -/
theorem real_rows [Facts] (x : FVec Ideal S96x32 .f32) (j : S_.Idx)
    (e : Host.reduce IntOp.andi (cmpf .olt (Host.absf (extractStridedSlice S32x32 ![64, 0] x Facts.slices_S96x32_S32x32_64_0))
      (broadcastInDim S32x32 ![] Facts.bcast_S_S32x32 (constant (F := Ideal) S_ .f32 0x7F800000#32))) (constantI S_ 1 1#1)
      Facts.reducesTo_S32x32_S_d0_1 Facts.h_S_ j = 1#1) (c k : Fin 32) : ∃ r : ℝ, x (ix2 (gn c) k) = r := by
  obtain ⟨r, hr⟩ := real_of_cmp _ _ (ix2 c k) (Host.reduce_andi_all _ _ _ _ j e (ix2 c k))
  refine ⟨r, Eq.trans (congrArg x (funext fun a => Fin.ext ?_)) hr⟩
  match a with
  | ⟨0, _⟩ => rfl
  | ⟨1, _⟩ => exact (Nat.zero_add _).symm

/-- The candidate entries of a vector, when every one of them compares below infinity. -/
theorem real_entries [Facts] (x : FVec Ideal S96 .f32) (j : S_.Idx)
    (e : Host.reduce IntOp.andi (cmpf .olt (Host.absf (extractStridedSlice S32 ![64] x Facts.slices_S96_S32_64))
      (broadcastInDim S32 ![] Facts.bcast_S_S32 (constant (F := Ideal) S_ .f32 0x7F800000#32))) (constantI S_ 1 1#1)
      Facts.reducesTo_S32_S_d0 Facts.h_S_ j = 1#1) (c : Fin 32) : ∃ r : ℝ, x (ix1 (gn c)) = r := by
  obtain ⟨r, hr⟩ := real_of_cmp _ _ (ix1 c) (Host.reduce_andi_all _ _ _ _ j e (ix1 c))
  refine ⟨r, Eq.trans (congrArg x (funext fun a => Fin.ext ?_)) hr⟩
  match a with
  | ⟨0, _⟩ => rfl

/-- The precondition, read. -/
theorem fn_real [Facts] (x0 : FVec Ideal S100000x8x128 .f32) (x1 : IVec S100000x8 32) (x2 : FVec Ideal S96x128 .f32)
    (x3 : FVec Ideal S96x32 .f32) (x4 x5 : FVec Ideal S96 .f32) (x6 : FVec Ideal S96x128 .f32) (x7 : FVec Ideal S96x32 .f32)
    (x8 x9 : FVec Ideal S96 .f32) (h : fn x0 x1 x2 x3 x4 x5 x6 x7 x8 x9 = fun _ => 1#1) (c : Fin 32) :
    ((∀ k, ∃ r : ℝ, x3 (ix2 (gn c) k) = r) ∧ ∃ r : ℝ, x5 (ix1 (gn c)) = r)
      ∧ (∀ k, ∃ r : ℝ, x7 (ix2 (gn c) k) = r) ∧ ∃ r : ℝ, x9 (ix1 (gn c)) = r := by
  have e := congrFun h (fun d => d.elim0)
  obtain ⟨e1, e9⟩ := and_one _ _ e
  obtain ⟨e2, e7⟩ := and_one _ _ e1
  obtain ⟨e3, e5⟩ := and_one _ _ e2
  exact ⟨⟨real_rows x3 _ e3 c, real_entries x5 _ e5 c⟩, real_rows x7 _ e7 c, real_entries x9 _ e9 c⟩

end Cert.Pre_candidate_rows_finite
-- ==== Proof.lean ====
/- The claims: the runs of the kernel, of its idealization and of the reference, read at their arguments and results. -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.ReferenceIdeal.Read
public import proofs.«01_k».proof.Proof.Value.RefOut
public import proofs.«01_k».proof.Proof.Value.KerOut
public import proofs.«01_k».proof.Proof.Value.PreRead
public import Idealize.ShloMosaic.Lib.Quiescent

@[expose] public section

set_option maxRecDepth 16384

noncomputable section

namespace Cert.Proof

open Idealize.ShloMosaic hiding ix1 ix2 ix3 eq_ix3
open Idealize.ShloMosaic.TcCoe Idealize.SL.Sem
open Idealize.ShloMosaic.ValueIdx
open Cert.KernelIdeal.Gen Cert.ReferenceIdeal.Gen Cert.KernelIdeal.Bi

/-- The reference terminates without a fault, its arguments end as they began, and every semaphore ends at zero. -/
theorem ref_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The reference's result and the kernel's are one function of the arguments. -/
theorem out_eq (m : (ℓ : Loc Cert.KernelIdeal.nD Cert.KernelIdeal.τ Cert.KernelIdeal.sig) → Buf (Elt Ideal) ℓ)
    (c : Dev Cert.KernelIdeal.nD) :
    Cert.ReferenceIdeal.Read.val_main_v651 (F := Ideal) (arg0 m c) (arg1 m c) (arg2 m c) (arg3 m c) (arg4 m c) (arg5 m c) (arg6 m c)
      (arg7 m c) (arg8 m c) (arg9 m c) = bothK m c := by
  funext i
  have hi : i = ix2 (i 0 : Fin 100000) (i 1 : Fin 32) := ValueIdx.eq_ix2 (n0 := 100000) (n1 := 32) i
  exact (congrArg _ hi).trans ((Cert.ReferenceIdeal.Rs.out_apply (arg1 m c) (arg0 m c) (arg2 m c) (arg3 m c) (arg4 m c) (arg5 m c)
    (arg6 m c) (arg7 m c) (arg8 m c) (arg9 m c) (i 0) (i 1)).trans rfl)

/-- The kernel's result, under the precondition. -/
theorem ker_run (m : (ℓ : Loc Cert.KernelIdeal.nD Cert.KernelIdeal.τ Cert.KernelIdeal.sig) → Buf (Elt Ideal) ℓ)
    (g : Dev Cert.KernelIdeal.nD → PrngReg)
    (hp : Pre_KernelIdeal_candidate_rows_finite (hPre_candidate_rows_finite := Cert.Pre_candidate_rows_finite.facts) m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v43) = bothK m c) :=
  (θ_run Cert.KernelIdeal.defs _ _).mono (fun r h c => ((h.1 c).1 5).trans (out_arr m c
    (fun x => (@Cert.Pre_candidate_rows_finite.fn_real Cert.Pre_candidate_rows_finite.facts _ _ _ _ _ _ _ _ _ _ (hp c) x).1)
    (fun x => (@Cert.Pre_candidate_rows_finite.fn_real Cert.Pre_candidate_rows_finite.facts _ _ _ _ _ _ _ _ _ _ (hp c) x).2)))
    (run_main m g)

/-- The reference's result, of equal arguments. -/
theorem val_congr {x0 y0 : FVec Ideal Cert.ReferenceIdeal.S100000x8x128 .f32} {x1 y1 : IVec Cert.ReferenceIdeal.S100000x8 32}
    {x2 y2 : FVec Ideal Cert.ReferenceIdeal.S96x128 .f32} {x3 y3 : FVec Ideal Cert.ReferenceIdeal.S96x32 .f32}
    {x4 y4 x5 y5 : FVec Ideal Cert.ReferenceIdeal.S96 .f32} {x6 y6 : FVec Ideal Cert.ReferenceIdeal.S96x128 .f32}
    {x7 y7 : FVec Ideal Cert.ReferenceIdeal.S96x32 .f32} {x8 y8 x9 y9 : FVec Ideal Cert.ReferenceIdeal.S96 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) :
    Cert.ReferenceIdeal.Read.val_main_v651 (F := Ideal) x0 x1 x2 x3 x4 x5 x6 x7 x8 x9
      = Cert.ReferenceIdeal.Read.val_main_v651 (F := Ideal) y0 y1 y2 y3 y4 y5 y6 y7 y8 y9 := by
  subst h0 h1 h2 h3 h4 h5 h6 h7 h8 h9; rfl

/-- The kernel and the reference end with equal results. -/
theorem algebraic : algebraic_KernelIdeal_ReferenceIdeal_pre_candidate_rows_finite (hKernelIdeal := Cert.KernelIdeal.Gen.facts)
    (hReferenceIdeal := Cert.ReferenceIdeal.Gen.facts) (hPre_candidate_rows_finite := Cert.Pre_candidate_rows_finite.facts) := by
  intro m g m' g' hp ha
  refine ⟨fun c => bothK m c, ?_, ?_⟩
  · exact (θ_run Cert.KernelIdeal.defs _ _).mono (fun r h c => ⟨h.1 c, h.2.1 c⟩) (θ_run_and (ker_run m g hp) (run_frame m g))
  · refine (θ_run Cert.ReferenceIdeal.defs _ _).mono (fun r h c => ⟨(h c).1.trans ?_, (h c).2⟩) (Cert.ReferenceIdeal.Value.run m' g')
    refine (Cert.ReferenceIdeal.Read.val_main_v651_eq _).trans (Eq.trans ?_ (out_eq m c))
    obtain ⟨h0, h1, h2, h3, h4, h5, h6, h7, h8, h9⟩ := ha c
    exact val_congr h0 h1 h2 h3 h4 h5 h6 h7 h8 h9

/-- Every claim. -/
theorem claim : Cert.Claim := ⟨Cert.Kernel.Gen.facts, Cert.KernelIdeal.Gen.facts, Cert.ReferenceIdeal.Gen.facts,
  Cert.Pre_candidate_rows_finite.facts,
  fun m g _ => Cert.Kernel.Bi.run_frame m g, fun m g _ => run_frame m g, fun m g _ => run_frame m g,
  ref_frame, fun m g _ => ref_frame m g trivial, trivial, algebraic⟩

end Cert.Proof

end
